-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x768x20x29 : Shape := ⟨4, ![4, 768, 20, 29]⟩
abbrev S4x768x20 : Shape := ⟨3, ![4, 768, 20]⟩
abbrev S29x256 : Shape := ⟨2, ![29, 256]⟩
abbrev S256 : Shape := ⟨1, ![256]⟩
abbrev S512x256 : Shape := ⟨2, ![512, 256]⟩
abbrev S256x256 : Shape := ⟨2, ![256, 256]⟩
abbrev S_ : Shape := ⟨0, ![]⟩
abbrev S4x768x20x1 : Shape := ⟨4, ![4, 768, 20, 1]⟩

class Facts : Prop where
  bcast_S_S4x768x20x29 : S_.BroadcastsInDim S4x768x20x29 (![] : Fin 0 → Fin S4x768x20x29.rank)
  bcast_S4x768x20_S4x768x20x1_0_1_2 : S4x768x20.BroadcastsInDim S4x768x20x1 (![0, 1, 2] : Fin 3 → Fin S4x768x20x1.rank)
  bcast_S4x768x20x1_S4x768x20x29_0_1_2_3 : S4x768x20x1.BroadcastsInDim S4x768x20x29 (![0, 1, 2, 3] : Fin 4 → Fin S4x768x20x29.rank)
  bcast_S_S29x256 : S_.BroadcastsInDim S29x256 (![] : Fin 0 → Fin S29x256.rank)
  bcast_S_S256 : S_.BroadcastsInDim S256 (![] : Fin 0 → Fin S256.rank)
  bcast_S_S512x256 : S_.BroadcastsInDim S512x256 (![] : Fin 0 → Fin S512x256.rank)
  bcast_S_S256x256 : S_.BroadcastsInDim S256x256 (![] : Fin 0 → Fin S256x256.rank)

variable [Facts]

def fn_part1 {F : FTy → Type} [FloatOps F] (main_arg7 : FVec F S256 .f32) (main_arg8 : FVec F S256x256 .f32) (main_arg9 : FVec F S256 .f32) (main_v6 : IVec S4x768x20x29 1) (main_v9 : IVec S29x256 1) (main_v12 : IVec S256 1) (main_v14 : IVec S256 1) (main_v17 : IVec S512x256 1) (main_v18 : FVec F S256 .f32) : IVec S4x768x20x29 1 × IVec S29x256 1 × IVec S256 1 × IVec S256 1 × IVec S512x256 1 × IVec S256 1 × IVec S256 1 × IVec S256x256 1 × IVec S256 1 :=
  let main_cst_4 : FVec F S_ .f32 := constant S_ .f32 0x7F800000#32
  let main_v19 : FVec F S256 .f32 := broadcastInDim S256 ![] bcast_S_S256 main_cst_4
  let main_v20 : IVec S256 1 := cmpf .olt main_v18 main_v19
  let main_cst_5 : FVec F S_ .f32 := constant S_ .f32 0x7F800000#32
  let main_v21 : FVec F S256 .f32 := broadcastInDim S256 ![] bcast_S_S256 main_cst_5
  let main_v22 : IVec S256 1 := cmpf .olt main_arg7 main_v21
  let main_v23 : FVec F S256x256 .f32 := Host.absf main_arg8
  let main_cst_6 : FVec F S_ .f32 := constant S_ .f32 0x7F800000#32
  let main_v24 : FVec F S256x256 .f32 := broadcastInDim S256x256 ![] bcast_S_S256x256 main_cst_6
  let main_v25 : IVec S256x256 1 := cmpf .olt main_v23 main_v24
  let main_v26 : FVec F S256 .f32 := Host.absf main_arg9
  let main_cst_7 : FVec F S_ .f32 := constant S_ .f32 0x7F800000#32
  let main_v27 : FVec F S256 .f32 := broadcastInDim S256 ![] bcast_S_S256 main_cst_7
  let main_v28 : IVec S256 1 := cmpf .olt main_v26 main_v27
  (main_v6, main_v9, main_v12, main_v14, main_v17, main_v20, main_v22, main_v25, main_v28)

def fn {F : FTy → Type} [FloatOps F] (main_arg0 : FVec F S4x768x20x29 .f32) (main_arg1 : IVec S4x768x20 1) (main_arg2 : FVec F S29x256 .f32) (main_arg3 : FVec F S256 .f32) (main_arg4 : FVec F S256 .f32) (main_arg5 : FVec F S512x256 .f32) (main_arg6 : FVec F S256 .f32) (main_arg7 : FVec F S256 .f32) (main_arg8 : FVec F S256x256 .f32) (main_arg9 : FVec F S256 .f32) (main_arg10 : FVec F S256 .f32) (main_arg11 : FVec F S256x256 .f32) (main_arg12 : FVec F S256 .f32) : IVec S4x768x20x29 1 × IVec S29x256 1 × IVec S256 1 × IVec S256 1 × IVec S512x256 1 × IVec S256 1 × IVec S256 1 × IVec S256x256 1 × IVec S256 1 :=
  let main_v0 : FVec F S4x768x20x29 .f32 := Host.absf main_arg0
  let main_cst : FVec F S_ .f32 := constant S_ .f32 0x7F800000#32
  let main_v1 : FVec F S4x768x20x29 .f32 := broadcastInDim S4x768x20x29 ![] bcast_S_S4x768x20x29 main_cst
  let main_v2 : IVec S4x768x20x29 1 := cmpf .olt main_v0 main_v1
  let main_v3 : IVec S4x768x20x1 1 := broadcastInDim S4x768x20x1 ![0, 1, 2] bcast_S4x768x20_S4x768x20x1_0_1_2 main_arg1
  let main_v4 : IVec S4x768x20x1 1 := noti main_v3
  let main_v5 : IVec S4x768x20x29 1 := broadcastInDim S4x768x20x29 ![0, 1, 2, 3] bcast_S4x768x20x1_S4x768x20x29_0_1_2_3 main_v4
  let main_v6 : IVec S4x768x20x29 1 := ori main_v2 main_v5
  let main_v7 : FVec F S29x256 .f32 := Host.absf main_arg2
  let main_cst_0 : FVec F S_ .f32 := constant S_ .f32 0x7F800000#32
  let main_v8 : FVec F S29x256 .f32 := broadcastInDim S29x256 ![] bcast_S_S29x256 main_cst_0
  let main_v9 : IVec S29x256 1 := cmpf .olt main_v7 main_v8
  let main_v10 : FVec F S256 .f32 := Host.absf main_arg3
  let main_cst_1 : FVec F S_ .f32 := constant S_ .f32 0x7F800000#32
  let main_v11 : FVec F S256 .f32 := broadcastInDim S256 ![] bcast_S_S256 main_cst_1
  let main_v12 : IVec S256 1 := cmpf .olt main_v10 main_v11
  let main_cst_2 : FVec F S_ .f32 := constant S_ .f32 0x7F800000#32
  let main_v13 : FVec F S256 .f32 := broadcastInDim S256 ![] bcast_S_S256 main_cst_2
  let main_v14 : IVec S256 1 := cmpf .olt main_arg4 main_v13
  let main_v15 : FVec F S512x256 .f32 := Host.absf main_arg5
  let main_cst_3 : FVec F S_ .f32 := constant S_ .f32 0x7F800000#32
  let main_v16 : FVec F S512x256 .f32 := broadcastInDim S512x256 ![] bcast_S_S512x256 main_cst_3
  let main_v17 : IVec S512x256 1 := cmpf .olt main_v15 main_v16
  let main_v18 : FVec F S256 .f32 := Host.absf main_arg6
  fn_part1 (F := F) main_arg7 main_arg8 main_arg9 main_v6 main_v9 main_v12 main_v14 main_v17 main_v18
-- ==== Kernel.lean ====
abbrev S4x768x20x29 : Shape := ⟨4, ![4, 768, 20, 29]⟩
abbrev S4x768x20 : Shape := ⟨3, ![4, 768, 20]⟩
abbrev S29x256 : Shape := ⟨2, ![29, 256]⟩
abbrev S256 : Shape := ⟨1, ![256]⟩
abbrev S512x256 : Shape := ⟨2, ![512, 256]⟩
abbrev S256x256 : Shape := ⟨2, ![256, 256]⟩
abbrev S3072x20x29 : Shape := ⟨3, ![3072, 20, 29]⟩
abbrev S3072x20 : Shape := ⟨2, ![3072, 20]⟩
abbrev S1x256 : Shape := ⟨2, ![1, 256]⟩
abbrev S3072x256 : Shape := ⟨2, ![3072, 256]⟩
abbrev S384x20x29 : Shape := ⟨3, ![384, 20, 29]⟩
abbrev S384x20 : Shape := ⟨2, ![384, 20]⟩
abbrev S384x256 : Shape := ⟨2, ![384, 256]⟩
abbrev S20x384x29 : Shape := ⟨3, ![20, 384, 29]⟩
abbrev S1x384x29 : Shape := ⟨3, ![1, 384, 29]⟩
abbrev S384x29 : Shape := ⟨2, ![384, 29]⟩
abbrev S384x1 : Shape := ⟨2, ![384, 1]⟩
abbrev S1x384x256 : Shape := ⟨3, ![1, 384, 256]⟩
abbrev S20x384x256 : Shape := ⟨3, ![20, 384, 256]⟩
abbrev S7680x256 : Shape := ⟨2, ![7680, 256]⟩
abbrev S384 : Shape := ⟨1, ![384]⟩
abbrev S4x768x256 : Shape := ⟨3, ![4, 768, 256]⟩

abbrev nBuf : Space → Nat
  | .hbm => 25
  | .vmem => 17
  | .smem => 0
  | _ => 0

abbrev bufTy : (tb : Table) → Fin (tcTables nBuf tb) → BufTy
  | .hbm, ⟨0, _⟩ => ⟨S4x768x20x29, .f32⟩
  | .hbm, ⟨1, _⟩ => ⟨S4x768x20, .i1⟩
  | .hbm, ⟨2, _⟩ => ⟨S29x256, .f32⟩
  | .hbm, ⟨3, _⟩ => ⟨S256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S3072x20x29, .f32⟩
  | .hbm, ⟨14, _⟩ => ⟨S3072x20, .i1⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S3072x20, .i32⟩
  | .hbm, ⟨23, _⟩ => ⟨S3072x256, .f32⟩
  | .hbm, ⟨24, _⟩ => ⟨S4x768x256, .f32⟩
  | .local _ .vmem, ⟨0, _⟩ => ⟨S384x20x29, .f32⟩
  | .local _ .vmem, ⟨1, _⟩ => ⟨S384x20x29, .f32⟩
  | .local _ .vmem, ⟨2, _⟩ => ⟨S384x20, .i32⟩
  | .local _ .vmem, ⟨3, _⟩ => ⟨S384x20, .i32⟩
  | .local _ .vmem, ⟨4, _⟩ => ⟨S29x256, .f32⟩
  | .local _ .vmem, ⟨5, _⟩ => ⟨S1x256, .f32⟩
  | .local _ .vmem, ⟨6, _⟩ => ⟨S1x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S1x256, .f32⟩
  | .local _ .vmem, ⟨13, _⟩ => ⟨S256x256, .f32⟩
  | .local _ .vmem, ⟨14, _⟩ => ⟨S1x256, .f32⟩
  | .local _ .vmem, ⟨15, _⟩ => ⟨S384x256, .f32⟩
  | .local _ .vmem, ⟨16, _⟩ => ⟨S384x256, .f32⟩
  | _, _ => ⟨S4x768x20x29, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x20x29 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x20 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S29x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S384x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x768x20x29 : Shape := ⟨4, ![4, 768, 20, 29]⟩
abbrev S4x768x20 : Shape := ⟨3, ![4, 768, 20]⟩
abbrev S29x256 : Shape := ⟨2, ![29, 256]⟩
abbrev S256 : Shape := ⟨1, ![256]⟩
abbrev S512x256 : Shape := ⟨2, ![512, 256]⟩
abbrev S256x256 : Shape := ⟨2, ![256, 256]⟩
abbrev S4x768x20x1 : Shape := ⟨4, ![4, 768, 20, 1]⟩
abbrev S4x768x20x256 : Shape := ⟨4, ![4, 768, 20, 256]⟩
abbrev S1x1x1x256 : Shape := ⟨4, ![1, 1, 1, 256]⟩
abbrev S_ : Shape := ⟨0, ![]⟩
abbrev S4x768x256 : Shape := ⟨3, ![4, 768, 256]⟩
abbrev S4x768x1x256 : Shape := ⟨4, ![4, 768, 1, 256]⟩
abbrev S4x768x20x512 : Shape := ⟨4, ![4, 768, 20, 512]⟩
abbrev S4x768 : Shape := ⟨2, ![4, 768]⟩
abbrev S4x768x1 : Shape := ⟨3, ![4, 768, 1]⟩
abbrev S1x1x256 : Shape := ⟨3, ![1, 1, 256]⟩

abbrev nBuf : Space → Nat
  | .hbm => 85
  | .vmem => 0
  | .smem => 0
  | _ => 0

abbrev bufTy : (tb : Table) → Fin (tcTables nBuf tb) → BufTy
  | .hbm, ⟨0, _⟩ => ⟨S4x768x20x29, .f32⟩
  | .hbm, ⟨1, _⟩ => ⟨S4x768x20, .i1⟩
  | .hbm, ⟨2, _⟩ => ⟨S29x256, .f32⟩
  | .hbm, ⟨3, _⟩ => ⟨S256, .f32⟩
  | .hbm, ⟨4, _⟩ => ⟨S256, .f32⟩
  | .hbm, ⟨5, _⟩ => ⟨S512x256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S4x768x20x1, .i1⟩
  | .hbm, ⟨14, _⟩ => ⟨S4x768x20x1, .f32⟩
  | .hbm, ⟨15, _⟩ => ⟨S4x768x20x256, .f32⟩
  | .hbm, ⟨16, _⟩ => ⟨S1x1x1x256, .f32⟩
  | .hbm, ⟨17, _⟩ => ⟨S4x768x20x256, .f32⟩
  | .hbm, ⟨18, _⟩ => ⟨S4x768x20x256, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4x768x20x256, .f32⟩
  | .hbm, ⟨23, _⟩ => ⟨S4x768x20x256, .f32⟩
  | .hbm, ⟨24, _⟩ => ⟨S1x1x1x256, .f32⟩
  | .hbm, ⟨25, _⟩ => ⟨S4x768x20x256, .f32⟩
  | .hbm, ⟨26, _⟩ => ⟨S4x768x20x256, .f32⟩
  | .hbm, ⟨27, _⟩ => ⟨S_, .f32⟩
  | .hbm, ⟨28, _⟩ => ⟨S4x768x20x256, .f32⟩
  | .hbm, ⟨29, _⟩ => ⟨S4x768x20x256, .f32⟩
  | .hbm, ⟨30, _⟩ => ⟨S4x768x20x256, .f32⟩
  | .hbm, ⟨31, _⟩ => ⟨S4x768x20x256, .f32⟩
  | .hbm, ⟨32, _⟩ => ⟨S_, .f32⟩
  | .hbm, ⟨33, _⟩ => ⟨S4x768x256, .f32⟩
  | .hbm, ⟨34, _⟩ => ⟨S4x768x1x256, .f32⟩
  | .hbm, ⟨35, _⟩ => ⟨S4x768x20x256, .f32⟩
  | .hbm, ⟨36, _⟩ => ⟨S4x768x20x512, .f32⟩
  | .hbm, ⟨37, _⟩ => ⟨S4x768x20x256, .f32⟩
  | .hbm, ⟨38, _⟩ => ⟨S1x1x1x256, .f32⟩
  | .hbm, ⟨39, _⟩ => ⟨S4x768x20x256, .f32⟩
  | .hbm, ⟨40, _⟩ => ⟨S4x768x20x256, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4x768x20x256, .f32⟩
  | .hbm, ⟨45, _⟩ => ⟨S4x768x20x256, .f32⟩
  | .hbm, ⟨46, _⟩ => ⟨S1x1x1x256, .f32⟩
  | .hbm, ⟨47, _⟩ => ⟨S4x768x20x256, .f32⟩
  | .hbm, ⟨48, _⟩ => ⟨S4x768x20x256, .f32⟩
  | .hbm, ⟨49, _⟩ => ⟨S_, .f32⟩
  | .hbm, ⟨50, _⟩ => ⟨S4x768x20x256, .f32⟩
  | .hbm, ⟨51, _⟩ => ⟨S4x768x20x256, .f32⟩
  | .hbm, ⟨52, _⟩ => ⟨S4x768x20x256, .f32⟩
  | .hbm, ⟨53, _⟩ => ⟨S1x1x1x256, .f32⟩
  | .hbm, ⟨54, _⟩ => ⟨S4x768x20x256, .f32⟩
  | .hbm, ⟨55, _⟩ => ⟨S4x768x20x256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4x768x20x256, .f32⟩
  | .hbm, ⟨60, _⟩ => ⟨S4x768x20x256, .f32⟩
  | .hbm, ⟨61, _⟩ => ⟨S1x1x1x256, .f32⟩
  | .hbm, ⟨62, _⟩ => ⟨S4x768x20x256, .f32⟩
  | .hbm, ⟨63, _⟩ => ⟨S4x768x20x256, .f32⟩
  | .hbm, ⟨64, _⟩ => ⟨S_, .f32⟩
  | .hbm, ⟨65, _⟩ => ⟨S4x768x20x256, .f32⟩
  | .hbm, ⟨66, _⟩ => ⟨S4x768x20x256, .f32⟩
  | .hbm, ⟨67, _⟩ => ⟨S4x768x20x256, .f32⟩
  | .hbm, ⟨68, _⟩ => ⟨S4x768x20x256, .f32⟩
  | .hbm, ⟨69, _⟩ => ⟨S_, .f32⟩
  | .hbm, ⟨70, _⟩ => ⟨S4x768x256, .f32⟩
  | .hbm, ⟨71, _⟩ => ⟨S4x768x20, .i32⟩
  | .hbm, ⟨72, _⟩ => ⟨S_, .i32⟩
  | .hbm, ⟨73, _⟩ => ⟨S4x768, .i32⟩
  | .hbm, ⟨74, _⟩ => ⟨S_, .i32⟩
  | .hbm, ⟨75, _⟩ => ⟨S4x768, .i32⟩
  | .hbm, ⟨76, _⟩ => ⟨S4x768, .i1⟩
  | .hbm, ⟨77, _⟩ => ⟨S4x768x1, .i1⟩
  | .hbm, ⟨78, _⟩ => ⟨S4x768x1, .f32⟩
  | .hbm, ⟨79, _⟩ => ⟨S4x768x256, .f32⟩
  | .hbm, ⟨80, _⟩ => ⟨S1x1x256, .f32⟩
  | .hbm, ⟨81, _⟩ => ⟨S4x768x256, .f32⟩
  | .hbm, ⟨82, _⟩ => ⟨S4x768x256, .f32⟩
  | .hbm, ⟨83, _⟩ => ⟨S4x768x256, .f32⟩
  | .hbm, ⟨84, _⟩ => ⟨S4x768x256, .f32⟩
  | _, _ => ⟨S4x768x20x29, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_call0_cst : Ref sig .tc := ⟨.hbm, 27, rfl⟩
abbrev main_call0_v0 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_1 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_2 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_call2_cst : Ref sig .tc := ⟨.hbm, 64, rfl⟩
abbrev main_call2_v0 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_3 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_v48 : Ref sig .tc := ⟨.hbm, 73, rfl⟩
abbrev main_c_4 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩

abbrev nD : Nat := 1
abbrev τ : Topo := Topo.v7x

variable {F : FTy → Type} [FloatOps F]
-- ==== Proof.Network.lean ====
/-
  The polyline encoder at one polyline, as functions of numbers: `kOut` in the kernel's order of operations (each
  scale folded into its weights, the pooled half of the second layer taken apart) and `rOut` in the reference's (each
  scale put on the sum, the two halves laid side by side). A polyline has 20 points of 29 numbers each and a mask.
-/
module

public import Idealize.ShloMosaic.PureOps.Ideal

@[expose] public section

noncomputable section

namespace Cert.Proof.Network

open Idealize.ShloMosaic

/-- The greatest of 20 numbers. -/
def pmax (f : Fin 20 → EReal) : EReal := Finset.univ.fold max ⊥ f

/-- The greatest of 20 numbers, taken pair by pair. -/
def tree (f : Fin 20 → EReal) : EReal :=
  max (max (max (max (max (f 0) (f 1)) (max (f 2) (f 3))) (max (max (f 4) (f 5)) (max (f 6) (f 7))))
      (max (max (max (f 8) (f 9)) (max (f 10) (f 11))) (max (max (f 12) (f 13)) (max (f 14) (f 15)))))
    (max (max (f 16) (f 17)) (max (f 18) (f 19)))

/-- The lower half of 512 rows. -/
abbrev lo (k : Fin 256) : Fin 512 := ⟨k.val, by omega⟩

/-- The upper half of 512 rows. -/
abbrev hi (k : Fin 256) : Fin 512 := ⟨256 + k.val, by omega⟩

/-- What one polyline's result depends on: its points and mask, the three weight matrices with their scales and
    shifts, the last layer, and the number `s` that a scale is divided by. -/
structure Net where
  x : Fin 20 → Fin 29 → EReal
  m : Fin 20 → EReal
  w0 : Fin 29 → Fin 256 → EReal
  g0 : Fin 256 → EReal
  b0 : Fin 256 → EReal
  w1 : Fin 512 → Fin 256 → EReal
  g1 : Fin 256 → EReal
  b1 : Fin 256 → EReal
  w2 : Fin 256 → Fin 256 → EReal
  g2 : Fin 256 → EReal
  b2 : Fin 256 → EReal
  wo : Fin 256 → Fin 256 → EReal
  bo : Fin 256 → EReal
  s : EReal

namespace Net

variable (N : Net)

/-! ### The kernel's order -/

/-- The reciprocal of the divisor. -/
def kap : EReal := Ideal.div 1 N.s

/-- The first layer at one point of the polyline: weights scaled first. -/
def kHid (n : Fin 20) (j : Fin 256) : EReal :=
  max ((∑ c : Fin 29, N.x n c * (N.w0 c j * (N.g0 j * N.kap))) + N.b0 j) 0 * N.m n

/-- The first layer's greatest value over the points. -/
def kPool (j : Fin 256) : EReal := tree fun n => N.kHid n j

/-- The pooled half of the second layer with its shift, one number per polyline. -/
def kCtx (j : Fin 256) : EReal := (∑ k : Fin 256, N.kPool k * (N.w1 (hi k) j * (N.g1 j * N.kap))) + N.b1 j

/-- The second layer at one point. -/
def kMid (n : Fin 20) (j : Fin 256) : EReal :=
  max ((∑ k : Fin 256, N.kHid n k * (N.w1 (lo k) j * (N.g1 j * N.kap))) + N.kCtx j) 0

/-- The third layer at one point, before the mask. -/
def kTop (n : Fin 20) (j : Fin 256) : EReal :=
  max ((∑ k : Fin 256, N.kMid n k * (N.w2 k j * (N.g2 j * N.kap))) + N.b2 j) 0

/-- The result in the kernel's order: the last layer of the greatest masked value, times the greatest mask. -/
def kOut (o : Fin 256) : EReal :=
  ((∑ k : Fin 256, tree (fun n => N.kTop n k * N.m n) * N.wo k o) + N.bo o) * pmax N.m

/-! ### The reference's order -/

/-- The first layer at one point: the sum scaled, then divided. -/
def rHid (n : Fin 20) (j : Fin 256) : EReal :=
  max (Ideal.div (N.g0 j * ∑ c : Fin 29, N.x n c * N.w0 c j) N.s + N.b0 j) 0 * N.m n

/-- The first layer's greatest value over the points. -/
def rPool (j : Fin 256) : EReal := pmax fun n => N.rHid n j

/-- The second layer at one point, over the point's own half and the pooled half. -/
def rMid (n : Fin 20) (j : Fin 256) : EReal :=
  max (Ideal.div (N.g1 j * ((∑ k : Fin 256, N.rHid n k * N.w1 (lo k) j) + ∑ k : Fin 256, N.rPool k * N.w1 (hi k) j))
    N.s + N.b1 j) 0

/-- The third layer at one point, before the mask. -/
def rTop (n : Fin 20) (j : Fin 256) : EReal :=
  max (Ideal.div (N.g2 j * ∑ k : Fin 256, N.rMid n k * N.w2 k j) N.s + N.b2 j) 0

/-- The result in the reference's order; `v` is one if some point is valid, else zero. -/
def rOut (v : EReal) (o : Fin 256) : EReal :=
  ((∑ k : Fin 256, pmax (fun n => N.rTop n k * N.m n) * N.wo k o) + N.bo o) * v

end Net

end Cert.Proof.Network

end
-- ==== Proof.Equation.lean ====
/-
  The equation: for finite valid points, weights and scales the two orders of operations give the same number.
  On the extended reals a factor may be drawn out of a sum only where the terms are finite, so each step first shows
  its layer finite.
-/
module

public import proofs.«01_k».proof.Proof.Network

@[expose] public section

noncomputable section

namespace Cert.Proof.Network

open Idealize.ShloMosaic

/-- A number that is neither infinity. -/
def IsFin (x : EReal) : Prop := ∃ r : ℝ, x = (r : EReal)

theorem IsFin.of_ne {x : EReal} (ht : x ≠ ⊤) (hb : x ≠ ⊥) : IsFin x := by
  lift x to ℝ using ⟨ht, hb⟩
  exact ⟨x, rfl⟩

/-- A family of finite numbers is a family of reals. -/
theorem reals {ι : Type} {f : ι → EReal} (h : ∀ i, IsFin (f i)) : ∃ r : ι → ℝ, f = fun i => (r i : EReal) :=
  ⟨fun i => (h i).choose, funext fun i => (h i).choose_spec⟩

/-- A sum of reals, taken on the extended reals, is the real sum. -/
theorem coe_sum {ι : Type} [Fintype ι] (r : ι → ℝ) : (∑ i, (r i : EReal)) = ((∑ i, r i : ℝ) : EReal) := by
  classical
  refine Finset.induction_on (motive := fun t => (∑ i ∈ t, (r i : EReal)) = ((∑ i ∈ t, r i : ℝ) : EReal))
    Finset.univ (by simp) fun a t ha ih => ?_
  rw [Finset.sum_insert ha, Finset.sum_insert ha, ih, EReal.coe_add]

theorem IsFin.sum {ι : Type} [Fintype ι] {f : ι → EReal} (h : ∀ i, IsFin (f i)) : IsFin (∑ i, f i) := by
  obtain ⟨r, rfl⟩ := reals h
  exact ⟨_, coe_sum r⟩

theorem IsFin.mul {x y : EReal} (hx : IsFin x) (hy : IsFin y) : IsFin (x * y) := by
  obtain ⟨a, rfl⟩ := hx
  obtain ⟨b, rfl⟩ := hy
  exact ⟨a * b, (EReal.coe_mul a b).symm⟩

/-- A rectified finite number is finite after any shift that is not `⊤`: a shift of `⊥` rectifies to zero. -/
theorem IsFin.relu {x b : EReal} (hx : IsFin x) (hb : b ≠ ⊤) : IsFin (max (x + b) 0) := by
  obtain ⟨r, rfl⟩ := hx
  by_cases h : b = ⊥
  · subst h
    exact ⟨0, by simp⟩
  · obtain ⟨a, rfl⟩ := IsFin.of_ne hb h
    refine ⟨max (r + a) 0, ?_⟩
    rw [← EReal.coe_add, ← EReal.coe_zero]
    exact (EReal.coe_strictMono.monotone.map_max).symm

/-- Finite terms: scaling every weight and then summing is summing, scaling the sum and dividing. -/
theorem scale_sum {ι : Type} [Fintype ι] {x w : ι → EReal} {g s : EReal} (hx : ∀ i, IsFin (x i)) (hw : ∀ i, IsFin (w i))
    (hg : IsFin g) (hs : IsFin s) (h0 : s ≠ 0) :
    (∑ i, x i * (w i * (g * Ideal.div 1 s))) = Ideal.div (g * ∑ i, x i * w i) s := by
  obtain ⟨x, rfl⟩ := reals hx
  obtain ⟨w, rfl⟩ := reals hw
  obtain ⟨g, rfl⟩ := hg
  obtain ⟨s, rfl⟩ := hs
  have h0' : s ≠ 0 := by rintro rfl; exact h0 rfl
  have e : ∀ y : EReal, Ideal.div y (s : EReal) = y * ((1 / s : ℝ) : EReal) := Ideal.div_coe h0'
  simp only [e, one_mul, ← EReal.coe_mul, coe_sum]
  rw [EReal.coe_eq_coe_iff, Finset.mul_sum, Finset.sum_mul]
  exact Finset.sum_congr rfl fun i _ => by ring

/-- The same where the terms fall into two sums. -/
theorem scale_sum_add {ι κ : Type} [Fintype ι] [Fintype κ] {x w : ι → EReal} {y u : κ → EReal} {g s : EReal}
    (hx : ∀ i, IsFin (x i)) (hw : ∀ i, IsFin (w i)) (hy : ∀ i, IsFin (y i)) (hu : ∀ i, IsFin (u i))
    (hg : IsFin g) (hs : IsFin s) (h0 : s ≠ 0) :
    (∑ i, x i * (w i * (g * Ideal.div 1 s))) + (∑ i, y i * (u i * (g * Ideal.div 1 s)))
      = Ideal.div (g * ((∑ i, x i * w i) + ∑ i, y i * u i)) s := by
  rw [scale_sum hx hw hg hs h0, scale_sum hy hu hg hs h0]
  obtain ⟨a, ha⟩ := IsFin.sum fun i => (hx i).mul (hw i)
  obtain ⟨b, hb⟩ := IsFin.sum fun i => (hy i).mul (hu i)
  rw [ha, hb]
  obtain ⟨g, rfl⟩ := hg
  obtain ⟨s, rfl⟩ := hs
  have h0' : s ≠ 0 := by rintro rfl; exact h0 rfl
  have e : ∀ y : EReal, Ideal.div y (s : EReal) = y * ((1 / s : ℝ) : EReal) := Ideal.div_coe h0'
  simp only [e, ← EReal.coe_mul, ← EReal.coe_add]
  rw [EReal.coe_eq_coe_iff]
  ring

theorem pmax_eq_sup (f : Fin 20 → EReal) : pmax f = Finset.univ.sup f := rfl

/-- The greatest of 20 numbers is one of them. -/
theorem pmax_mem (f : Fin 20 → EReal) : ∃ n, pmax f = f n := by
  obtain ⟨n, _, h⟩ := Finset.exists_mem_eq_sup (Finset.univ : Finset (Fin 20)) ⟨0, Finset.mem_univ _⟩ f
  exact ⟨n, (pmax_eq_sup f).trans h⟩

theorem le_pmax (f : Fin 20 → EReal) (n : Fin 20) : f n ≤ pmax f := by
  rw [pmax_eq_sup]
  exact Finset.le_sup (Finset.mem_univ n)

/-- A bound of the greatest taken pair by pair bounds each number. -/
theorem le_of_tree_le {f : Fin 20 → EReal} {t : EReal} (h : tree f ≤ t) (n : Fin 20) : f n ≤ t := by
  unfold tree at h
  simp only [max_le_iff] at h
  obtain ⟨⟨⟨⟨⟨_, _⟩, ⟨_, _⟩⟩, ⟨⟨_, _⟩, ⟨_, _⟩⟩⟩, ⟨⟨⟨_, _⟩, ⟨_, _⟩⟩, ⟨⟨_, _⟩, ⟨_, _⟩⟩⟩⟩, ⟨⟨_, _⟩, ⟨_, _⟩⟩⟩ := h
  fin_cases n <;> assumption

/-- Taking the greatest pair by pair gives the greatest. -/
theorem tree_eq_pmax (f : Fin 20 → EReal) : tree f = pmax f := by
  refine le_antisymm ?_ ?_
  · unfold tree
    simp only [max_le_iff, le_pmax, and_self]
  · rw [pmax_eq_sup]
    exact Finset.sup_le fun n _ => le_of_tree_le le_rfl n

namespace Net

/-- What the equation needs of the numbers: the mask is zero or one, the valid points and the weights and scales of the
    three scaled layers are finite, the first two shifts are not `⊤`, and the divisor is finite and not zero. -/
structure Ok (N : Net) : Prop where
  m : ∀ n, N.m n = 0 ∨ N.m n = 1
  x : ∀ n, N.m n = 1 → ∀ c, IsFin (N.x n c)
  w0 : ∀ c j, IsFin (N.w0 c j)
  g0 : ∀ j, IsFin (N.g0 j)
  b0 : ∀ j, N.b0 j ≠ ⊤
  w1 : ∀ k j, IsFin (N.w1 k j)
  g1 : ∀ j, IsFin (N.g1 j)
  b1 : ∀ j, N.b1 j ≠ ⊤
  w2 : ∀ k j, IsFin (N.w2 k j)
  g2 : ∀ j, IsFin (N.g2 j)
  s : IsFin N.s
  s0 : N.s ≠ 0

variable {N : Net} (h : N.Ok)
include h

theorem Ok.isFin_m (n : Fin 20) : IsFin (N.m n) := by
  rcases h.m n with e | e
  · exact ⟨0, by rw [e]; rfl⟩
  · exact ⟨1, by rw [e]; rfl⟩

theorem Ok.isFin_kap : IsFin N.kap := by
  obtain ⟨s, hs⟩ := h.s
  have h0 := h.s0
  rw [hs] at h0
  have h0' : s ≠ 0 := by rintro rfl; exact h0 rfl
  refine ⟨1 / s, ?_⟩
  rw [kap, hs, Ideal.div_coe h0', one_mul]

/-- The first layers agree: at a point that is not valid both are zero, whatever its numbers. -/
theorem Ok.hid (n : Fin 20) (j : Fin 256) : N.kHid n j = N.rHid n j := by
  unfold kHid rHid kap
  rcases h.m n with e | e
  · rw [e, mul_zero, mul_zero]
  rw [scale_sum (fun c => h.x n e c) (fun c => h.w0 c j) (h.g0 j) h.s h.s0]

theorem Ok.isFin_kHid (n : Fin 20) (j : Fin 256) : IsFin (N.kHid n j) := by
  rcases h.m n with e | e
  · refine ⟨0, ?_⟩
    rw [kHid, e, mul_zero]
    rfl
  refine IsFin.mul (IsFin.relu (IsFin.sum fun c => ?_) (h.b0 j)) (h.isFin_m n)
  exact (h.x n e c).mul ((h.w0 c j).mul ((h.g0 j).mul h.isFin_kap))

/-- The pooled values agree. -/
theorem Ok.pool (j : Fin 256) : N.kPool j = N.rPool j := by
  unfold kPool rPool
  rw [tree_eq_pmax]
  exact congrArg pmax (funext fun n => h.hid n j)

theorem Ok.isFin_kPool (j : Fin 256) : IsFin (N.kPool j) := by
  unfold kPool
  rw [tree_eq_pmax]
  obtain ⟨n, e⟩ := pmax_mem fun n => N.kHid n j
  rw [e]
  exact h.isFin_kHid n j

/-- The second layers agree: the pooled half's sum and the shift are one number for all the points. -/
theorem Ok.mid (n : Fin 20) (j : Fin 256) : N.kMid n j = N.rMid n j := by
  unfold kMid rMid kCtx kap
  simp only [← h.hid, ← h.pool]
  rw [← add_assoc, scale_sum_add (fun k => h.isFin_kHid n k) (fun k => h.w1 (lo k) j) h.isFin_kPool
    (fun k => h.w1 (hi k) j) (h.g1 j) h.s h.s0]

theorem Ok.isFin_kMid (n : Fin 20) (j : Fin 256) : IsFin (N.kMid n j) := by
  unfold kMid kCtx
  rw [← add_assoc]
  have hg := (h.g1 j).mul h.isFin_kap
  obtain ⟨a, ha⟩ := IsFin.sum fun k => (h.isFin_kHid n k).mul ((h.w1 (lo k) j).mul hg)
  obtain ⟨b, hb⟩ := IsFin.sum fun k => (h.isFin_kPool k).mul ((h.w1 (hi k) j).mul hg)
  rw [ha, hb, ← EReal.coe_add]
  exact IsFin.relu ⟨_, rfl⟩ (h.b1 j)

/-- The third layers agree. -/
theorem Ok.top (n : Fin 20) (j : Fin 256) : N.kTop n j = N.rTop n j := by
  unfold kTop rTop kap
  simp only [← h.mid]
  rw [scale_sum (fun k => h.isFin_kMid n k) (fun k => h.w2 k j) (h.g2 j) h.s h.s0]

/-- The two orders of operations give the same result. -/
theorem Ok.out (o : Fin 256) : N.kOut o = N.rOut (pmax N.m) o := by
  unfold kOut rOut
  simp only [tree_eq_pmax, h.top]

end Net

end Cert.Proof.Network

end
-- ==== Proof.Consts.lean ====
/-
  The literals of the two programs as extended reals.
-/
module

public import Idealize.ShloMosaic.PureOps.Ideal
public import proofs.«01_k».proof.Proof.Equation

@[expose] public section

noncomputable section

namespace Cert.Proof.Consts

open Idealize.ShloMosaic Cert.Proof.Network

/-- The pattern of minus infinity, in two widths. -/
theorem ninf_bf16 : Ideal.ofBits .bf16 0xFF80#16 = ⊥ := by
  show Ideal.ieee 8 7 0xFF80#16 = ⊥
  unfold Ideal.ieee
  dsimp only
  rw [if_pos (by decide), if_pos (by decide), if_pos (by decide)]

theorem ninf_f32 : Ideal.ofBits .f32 0xFF800000#32 = ⊥ := by
  show Ideal.ieee 8 23 0xFF800000#32 = ⊥
  unfold Ideal.ieee
  dsimp only
  rw [if_pos (by decide), if_pos (by decide), if_pos (by decide)]

/-- The pattern of plus infinity. -/
theorem pinf_f32 : Ideal.ofBits .f32 0x7F800000#32 = ⊤ := by
  show Ideal.ieee 8 23 0x7F800000#32 = ⊤
  unfold Ideal.ieee
  dsimp only
  rw [if_pos (by decide), if_pos (by decide), if_neg (by decide)]

/-- The constant under the root is a positive real. -/
theorem eps_pos : ∃ r : ℝ, 0 < r ∧ Ideal.ofBits .f32 0x3F800054#32 = (r : EReal) := by
  refine ⟨(1 * (2 ^ 23 + 84 : Nat)) * (2 : ℝ) ^ ((127 : Nat) - (2 ^ (8 - 1) - 1) - (23 : Nat) : Int), by positivity, ?_⟩
  show Ideal.ieee 8 23 0x3F800054#32 = _
  unfold Ideal.ieee
  dsimp only
  rw [if_neg (by decide), if_neg (by decide), if_neg (by decide)]
  rfl

/-- The divisor of the scales: the root of that constant. -/
abbrev root : EReal := Ideal.sqrt (Ideal.ofBits .f32 0x3F800054#32)

theorem root_eq : ∃ r : ℝ, 0 < r ∧ root = (r : EReal) := by
  obtain ⟨r, h, e⟩ := eps_pos
  refine ⟨Real.sqrt r, Real.sqrt_pos.mpr h, ?_⟩
  rw [root, e, Ideal.sqrt_coe, if_neg (not_lt.mpr h.le)]

theorem root_fin : IsFin root := by
  obtain ⟨r, _, e⟩ := root_eq
  exact ⟨r, e⟩

theorem root_ne : root ≠ 0 := by
  obtain ⟨r, h, e⟩ := root_eq
  rw [e]
  exact_mod_cast h.ne'

end Cert.Proof.Consts

end
-- ==== Proof.Block.lean ====
/-
  The kernel body's pieces at an index. The body spells its 20 points out one by one; each lemma here reads one of those
  pieces. `BlockOut.lean` puts them together.
-/
module

public import proofs.«01_k».proof.Proof.Consts
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.Proof.Block

open Idealize.ShloMosaic Cert.KernelIdeal Cert.KernelIdeal.Gen Cert.Proof.Network Cert.Proof.Consts

/-! ### The operands as the body prepares them -/

/-- A mask word as a number: one unless the word is zero. -/
def bit (w : BitVec 32) : EReal := if w = 0#32 then 0 else 1

/-- A mask word compared with zero, widened and converted, is `bit`. -/
theorem bit_eq (w : BitVec 32) :
    FloatOps.sitofp (F := Ideal) .f32 (BitVec.setWidth 32 (IntOp.cmpi CmpIPredicate.ne w 0#32)) = bit w := by
  unfold bit
  by_cases h : w = 0#32
  · subst h
    simp [IntOp.cmpi, FloatOps.sitofp]
  · rw [if_neg h]
    have : IntOp.cmpi CmpIPredicate.ne w 0#32 = 1#1 := by
      have hb : (w != 0#32) = true := by simp [h]
      simp [IntOp.cmpi, hb]
    rw [this]
    simp [FloatOps.sitofp]

theorem pay1_eq : k0_pay1 (F := Ideal) = Ideal.div 1 root := by
  pointwise [k0_pay1]
  rfl

theorem pay3_apply (v : Vec Ideal S384x20 .i32) (q : Fin 384) (n : Fin 20) :
    k0_pay3 v (ix2 q n) = bit (v (ix2 q n)) := by
  pointwise [k0_pay3]
  exact bit_eq _

theorem pay4_apply (v11 : Vec Ideal S29x256 .f32) (v12 : Vec Ideal S1x256 .f32) (c : Fin 29) (j : Fin 256) :
    k0_pay4 v11 v12 (ix2 c j) = v11 (ix2 c j) * (v12 (ix2 0 j) * Ideal.div 1 root) := by
  rw [← pay1_eq]
  pointwise [k0_pay4]

theorem pay7_apply (v22 : Vec Ideal S1x256 .f32) (v26 : Vec Ideal S256x256 .f32) (k : Fin 256) (j : Fin 256) :
    k0_pay7 v22 v26 (ix2 k j) = v26 (ix2 k j) * (v22 (ix2 0 j) * Ideal.div 1 root) := by
  rw [← pay1_eq]
  pointwise [k0_pay7, k0_pay6]

theorem pay8_apply (v22 : Vec Ideal S1x256 .f32) (v30 : Vec Ideal S256x256 .f32) (k : Fin 256) (j : Fin 256) :
    k0_pay8 v22 v30 (ix2 k j) = v30 (ix2 k j) * (v22 (ix2 0 j) * Ideal.div 1 root) := by
  rw [← pay1_eq]
  pointwise [k0_pay8, k0_pay6]

theorem pay9_apply (v34 : Vec Ideal S256x256 .f32) (v35 : Vec Ideal S1x256 .f32) (k : Fin 256) (j : Fin 256) :
    k0_pay9 (k0_pay1 (F := Ideal)) v34 v35 (ix2 k j) = v34 (ix2 k j) * (v35 (ix2 0 j) * Ideal.div 1 root) := by
  rw [← pay1_eq]
  pointwise [k0_pay9]

/-! ### The first layer, point by point -/

section Points

variable (x : FVec Ideal S384x20x29 .bf16) (m : FVec Ideal S384x20 .bf16) (w : FVec Ideal S29x256 .bf16)
  (b : FVec Ideal S1x256 .bf16)

/-- The first layer at point `n` of row `q`, from the points, the mask, the scaled weights and the shift. -/
def hid (n : Fin 20) (q : Fin 384) (j : Fin 256) : EReal :=
  max ((∑ c : Fin 29, x (ix3 q n c) * w (ix2 c j)) + b (ix2 0 j)) 0 * m (ix2 q n)

theorem hid_0 (q : Fin 384) (j : Fin 256) :
    k0_pay12 x m w b (ix2 q j) = hid x m w b 0 q j := by
  pointwise [k0_pay12, k0_pay11]
  rfl

theorem hid_1 (q : Fin 384) (j : Fin 256) :
    k0_pay13 x m w b (ix2 q j) = hid x m w b 1 q j := by
  pointwise [k0_pay13, k0_pay11]
  rfl

theorem hid_2 (q : Fin 384) (j : Fin 256) :
    k0_pay14 x m w b (ix2 q j) = hid x m w b 2 q j := by
  pointwise [k0_pay14, k0_pay11]
  rfl

theorem hid_3 (q : Fin 384) (j : Fin 256) :
    k0_pay16 m (k0_pay15 x w b) (Scalar.ofBits .bf16 0x0000#16) (ix2 q j) = hid x m w b 3 q j := by
  pointwise [k0_pay16, k0_pay15, k0_pay11]
  rfl

theorem hid_4 (q : Fin 384) (j : Fin 256) :
    k0_pay17 m w b (k0_pay11 x) (ix2 q j) = hid x m w b 4 q j := by
  pointwise [k0_pay17, k0_pay11]
  rfl

theorem hid_5 (q : Fin 384) (j : Fin 256) :
    k0_pay18 m w b (k0_pay11 x) (ix2 q j) = hid x m w b 5 q j := by
  pointwise [k0_pay18, k0_pay11]
  rfl

theorem hid_6 (q : Fin 384) (j : Fin 256) :
    k0_pay19 m w b (k0_pay11 x) (ix2 q j) = hid x m w b 6 q j := by
  pointwise [k0_pay19, k0_pay11]
  rfl

theorem hid_7 (q : Fin 384) (j : Fin 256) :
    k0_pay20 m w b (k0_pay11 x) (ix2 q j) = hid x m w b 7 q j := by
  pointwise [k0_pay20, k0_pay11]
  rfl

theorem hid_8 (q : Fin 384) (j : Fin 256) :
    k0_pay22 m w b (k0_pay21 (k0_pay11 x)) (constant S384x256 .f32 0x00000000#32) (ix2 q j) = hid x m w b 8 q j := by
  pointwise [k0_pay22, k0_pay21, k0_pay11]
  rfl

theorem hid_9 (q : Fin 384) (j : Fin 256) :
    k0_pay23 m w b (k0_pay11 x) (ix2 q j) = hid x m w b 9 q j := by
  pointwise [k0_pay23, k0_pay11]
  rfl

theorem hid_10 (q : Fin 384) (j : Fin 256) :
    k0_pay24 m w b (k0_pay11 x) (ix2 q j) = hid x m w b 10 q j := by
  pointwise [k0_pay24, k0_pay11]
  rfl

theorem hid_11 (q : Fin 384) (j : Fin 256) :
    k0_pay25 m w b (k0_pay11 x) (ix2 q j) = hid x m w b 11 q j := by
  pointwise [k0_pay25, k0_pay11]
  rfl

theorem hid_12 (q : Fin 384) (j : Fin 256) :
    k0_pay28 (k0_pay26 w b (k0_pay11 x)) (k0_pay27 m) (ix2 q j) = hid x m w b 12 q j := by
  pointwise [k0_pay28, k0_pay26, k0_pay27, k0_pay11]
  rfl

theorem hid_13 (q : Fin 384) (j : Fin 256) :
    k0_pay29 m w b (k0_pay11 x) (ix2 q j) = hid x m w b 13 q j := by
  pointwise [k0_pay29, k0_pay11]
  rfl

theorem hid_14 (q : Fin 384) (j : Fin 256) :
    k0_pay30 m w b (k0_pay11 x) (ix2 q j) = hid x m w b 14 q j := by
  pointwise [k0_pay30, k0_pay11]
  rfl

theorem hid_15 (q : Fin 384) (j : Fin 256) :
    k0_pay31 m w b (k0_pay11 x) (ix2 q j) = hid x m w b 15 q j := by
  pointwise [k0_pay31, k0_pay11]
  rfl

theorem hid_16 (q : Fin 384) (j : Fin 256) :
    k0_pay32 m w b (k0_pay11 x) (ix2 q j) = hid x m w b 16 q j := by
  pointwise [k0_pay32, k0_pay11]
  rfl

theorem hid_17 (q : Fin 384) (j : Fin 256) :
    k0_pay35 m (k0_pay33 w (k0_pay11 x)) (k0_pay34 b) (ix2 q j) = hid x m w b 17 q j := by
  pointwise [k0_pay35, k0_pay33, k0_pay34, k0_pay11]
  rfl

theorem hid_18 (q : Fin 384) (j : Fin 256) :
    k0_pay36 m w b (k0_pay11 x) (ix2 q j) = hid x m w b 18 q j := by
  pointwise [k0_pay36, k0_pay11]
  rfl

theorem hid_19 (q : Fin 384) (j : Fin 256) :
    k0_pay37 m w b (k0_pay11 x) (ix2 q j) = hid x m w b 19 q j := by
  pointwise [k0_pay37, k0_pay11]
  rfl

/-- The 20 pieces of the body that hold the first layer, in order. -/
def rows : Fin 20 → FVec Ideal S384x256 .bf16 :=
  ![k0_pay12 x m w b,
    k0_pay13 x m w b,
    k0_pay14 x m w b,
    k0_pay16 m (k0_pay15 x w b) (Scalar.ofBits .bf16 0x0000#16),
    k0_pay17 m w b (k0_pay11 x),
    k0_pay18 m w b (k0_pay11 x),
    k0_pay19 m w b (k0_pay11 x),
    k0_pay20 m w b (k0_pay11 x),
    k0_pay22 m w b (k0_pay21 (k0_pay11 x)) (constant S384x256 .f32 0x00000000#32),
    k0_pay23 m w b (k0_pay11 x),
    k0_pay24 m w b (k0_pay11 x),
    k0_pay25 m w b (k0_pay11 x),
    k0_pay28 (k0_pay26 w b (k0_pay11 x)) (k0_pay27 m),
    k0_pay29 m w b (k0_pay11 x),
    k0_pay30 m w b (k0_pay11 x),
    k0_pay31 m w b (k0_pay11 x),
    k0_pay32 m w b (k0_pay11 x),
    k0_pay35 m (k0_pay33 w (k0_pay11 x)) (k0_pay34 b),
    k0_pay36 m w b (k0_pay11 x),
    k0_pay37 m w b (k0_pay11 x)]

/-- Each of them is the first layer at its point. -/
theorem rows_apply (n : Fin 20) (q : Fin 384) (j : Fin 256) : rows x m w b n (ix2 q j) = hid x m w b n q j := by
  fin_cases n
  · exact hid_0 x m w b q j
  · exact hid_1 x m w b q j
  · exact hid_2 x m w b q j
  · exact hid_3 x m w b q j
  · exact hid_4 x m w b q j
  · exact hid_5 x m w b q j
  · exact hid_6 x m w b q j
  · exact hid_7 x m w b q j
  · exact hid_8 x m w b q j
  · exact hid_9 x m w b q j
  · exact hid_10 x m w b q j
  · exact hid_11 x m w b q j
  · exact hid_12 x m w b q j
  · exact hid_13 x m w b q j
  · exact hid_14 x m w b q j
  · exact hid_15 x m w b q j
  · exact hid_16 x m w b q j
  · exact hid_17 x m w b q j
  · exact hid_18 x m w b q j
  · exact hid_19 x m w b q j

end Points

/-! ### The pooled half of the second layer -/

theorem pay38_apply (v10 : FVec Ideal S384x20 .bf16) (v18 : FVec Ideal S29x256 .bf16) (v21 : FVec Ideal S1x256 .bf16) (v33 : FVec Ideal S256x256 .bf16) (v45 : FVec Ideal S20x384x29 .bf16) (v56 v67 v78 v89 v100 v111 v122 v133 v144 v155 v166 v177 v188 v199 v210 v221 v232 v236 v237 : FVec Ideal S384x256 .bf16) (v286 : Vec Ideal S1x256 .f32)
    (q : Fin 384) (j : Fin 256) :
    k0_pay38 v10 v18 v21 v33 v45 v56 v67 v78 v89 v100 v111 v122 v133 v144 v155 v166 v177 v188 v199 v210 v221 v232 v236 v237 v286 (ix2 q j)
      = (∑ k : Fin 256, tree (fun n => (![v56, v67, v78, v89, v100, v111, v122, v133, v144, v155, v166, v177, v188, v199, v210, v221, v232, k0_pay35 v10 v236 v237,
          k0_pay36 v10 v18 v21 v45, k0_pay37 v10 v18 v21 v45] : Fin 20 → FVec Ideal S384x256 .bf16) n (ix2 q k))
            * v33 (ix2 k j)) + v286 (ix2 0 j) := by
  pointwise [k0_pay38]
  rfl

/-! ### The second and third layers, all points at once -/

theorem pay39_apply (v29 v41 : FVec Ideal S256x256 .bf16) (v44 : FVec Ideal S1x256 .bf16) (v56 v67 v78 v89 v100 v111 v122 v133 v144 v155 v166 v177 v188 v199 v210 v221 v232 v243 v254 v265 : FVec Ideal S384x256 .bf16) (v289 : FVec Ideal S384x256 .f32)
    (n : Fin 20) (q : Fin 384) (j : Fin 256) :
    k0_pay39 v29 v41 v44 v56 v67 v78 v89 v100 v111 v122 v133 v144 v155 v166 v177 v188 v199 v210 v221 v232 v243 v254 v265 v289 (ix3 n q j)
      = max ((∑ k : Fin 256, max ((∑ l : Fin 256, (![v56, v67, v78, v89, v100, v111, v122, v133, v144, v155, v166, v177, v188, v199, v210, v221, v232, v243, v254, v265] :
          Fin 20 → FVec Ideal S384x256 .bf16) n (ix2 q l) * v29 (ix2 l k)) + v289 (ix2 q k)) 0 * v41 (ix2 k j))
            + v44 (ix2 0 j)) 0 := by
  pointwise [k0_pay39]
  fin_cases n <;> rfl

/-! ### The masked third layer, point by point -/

theorem pay40_apply (v10 : FVec Ideal S384x20 .bf16) (v29 v41 : FVec Ideal S256x256 .bf16) (v44 : FVec Ideal S1x256 .bf16) (v56 v67 v78 v89 v100 v111 v122 v133 v144 v155 v166 v177 v188 v199 v210 v221 v232 v243 v254 v265 : FVec Ideal S384x256 .bf16) (v289 : FVec Ideal S384x256 .f32)
    (q : Fin 384) (j : Fin 256) :
    k0_pay40 v10 v29 v41 v44 v56 v67 v78 v89 v100 v111 v122 v133 v144 v155 v166 v177 v188 v199 v210 v221 v232 v243 v254 v265 v289 (ix2 q j)
      = k0_pay39 v29 v41 v44 v56 v67 v78 v89 v100 v111 v122 v133 v144 v155 v166 v177 v188 v199 v210 v221 v232 v243 v254 v265 v289 (ix3 0 q j) * v10 (ix2 q 0) := by
  pointwise [k0_pay40]

theorem pay41_apply (v10 : FVec Ideal S384x20 .bf16) (v29 v41 : FVec Ideal S256x256 .bf16) (v44 : FVec Ideal S1x256 .bf16) (v56 v67 v78 v89 v100 v111 v122 v133 v144 v155 v166 v177 v188 v199 v210 v221 v232 v243 v254 v265 : FVec Ideal S384x256 .bf16) (v289 : FVec Ideal S384x256 .f32)
    (q : Fin 384) (j : Fin 256) :
    k0_pay41 v10 v29 v41 v44 v56 v67 v78 v89 v100 v111 v122 v133 v144 v155 v166 v177 v188 v199 v210 v221 v232 v243 v254 v265 v289 (ix2 q j)
      = k0_pay39 v29 v41 v44 v56 v67 v78 v89 v100 v111 v122 v133 v144 v155 v166 v177 v188 v199 v210 v221 v232 v243 v254 v265 v289 (ix3 1 q j) * v10 (ix2 q 1) := by
  pointwise [k0_pay41]

theorem pay42_apply (v10 : FVec Ideal S384x20 .bf16) (v29 v41 : FVec Ideal S256x256 .bf16) (v44 : FVec Ideal S1x256 .bf16) (v56 v67 v78 v89 v100 v111 v122 v133 v144 v155 v166 v177 v188 v199 v210 v221 v232 v243 v254 v265 : FVec Ideal S384x256 .bf16) (v289 : FVec Ideal S384x256 .f32)
    (q : Fin 384) (j : Fin 256) :
    k0_pay42 v10 v29 v41 v44 v56 v67 v78 v89 v100 v111 v122 v133 v144 v155 v166 v177 v188 v199 v210 v221 v232 v243 v254 v265 v289 (ix2 q j)
      = k0_pay39 v29 v41 v44 v56 v67 v78 v89 v100 v111 v122 v133 v144 v155 v166 v177 v188 v199 v210 v221 v232 v243 v254 v265 v289 (ix3 2 q j) * v10 (ix2 q 2) := by
  pointwise [k0_pay42]

theorem pay43_apply (v29 v41 : FVec Ideal S256x256 .bf16) (v44 : FVec Ideal S1x256 .bf16) (v56 v67 v78 v89 v100 v111 v122 v133 v144 v155 v166 v177 v188 v199 v210 v221 v232 v243 v254 v265 : FVec Ideal S384x256 .bf16) (v289 : FVec Ideal S384x256 .f32)
    (q : Fin 384) (j : Fin 256) :
    k0_pay43 v29 v41 v44 v56 v67 v78 v89 v100 v111 v122 v133 v144 v155 v166 v177 v188 v199 v210 v221 v232 v243 v254 v265 v289 (ix2 q j) = k0_pay39 v29 v41 v44 v56 v67 v78 v89 v100 v111 v122 v133 v144 v155 v166 v177 v188 v199 v210 v221 v232 v243 v254 v265 v289 (ix3 3 q j) := by
  pointwise [k0_pay43]

theorem pay44_apply (v10 : FVec Ideal S384x20 .bf16) (v345 : FVec Ideal S384x256 .bf16) (q : Fin 384) (j : Fin 256) :
    k0_pay44 v10 v345 (ix2 q j) = v345 (ix2 q j) * v10 (ix2 q 3) := by
  pointwise [k0_pay44]

theorem pay45_apply (v10 : FVec Ideal S384x20 .bf16) (v328 : FVec Ideal S20x384x256 .bf16) (q : Fin 384) (j : Fin 256) :
    k0_pay45 v10 v328 (ix2 q j) = v328 (ix3 4 q j) * v10 (ix2 q 4) := by
  pointwise [k0_pay45]

theorem pay46_apply (v10 : FVec Ideal S384x20 .bf16) (v328 : FVec Ideal S20x384x256 .bf16) (q : Fin 384) (j : Fin 256) :
    k0_pay46 v10 v328 (ix2 q j) = v328 (ix3 5 q j) * v10 (ix2 q 5) := by
  pointwise [k0_pay46]

theorem pay47_apply (v10 : FVec Ideal S384x20 .bf16) (v328 : FVec Ideal S20x384x256 .bf16) (q : Fin 384) (j : Fin 256) :
    k0_pay47 v10 v328 (ix2 q j) = v328 (ix3 6 q j) * v10 (ix2 q 6) := by
  pointwise [k0_pay47]

theorem pay48_apply (v10 : FVec Ideal S384x20 .bf16) (v328 : FVec Ideal S20x384x256 .bf16) (q : Fin 384) (j : Fin 256) :
    k0_pay48 v10 v328 (ix2 q j) = v328 (ix3 7 q j) * v10 (ix2 q 7) := by
  pointwise [k0_pay48]

theorem pay49_apply (v10 : FVec Ideal S384x20 .bf16) (v328 : FVec Ideal S20x384x256 .bf16) (q : Fin 384) (j : Fin 256) :
    k0_pay49 v10 v328 (ix2 q j) = v328 (ix3 8 q j) * v10 (ix2 q 8) := by
  pointwise [k0_pay49]

theorem pay50_apply (v10 : FVec Ideal S384x20 .bf16) (v328 : FVec Ideal S20x384x256 .bf16) (q : Fin 384) (j : Fin 256) :
    k0_pay50 v10 v328 (ix2 q j) = v328 (ix3 9 q j) * v10 (ix2 q 9) := by
  pointwise [k0_pay50]

theorem pay51_apply (v10 : FVec Ideal S384x20 .bf16) (v328 : FVec Ideal S20x384x256 .bf16) (q : Fin 384) (j : Fin 256) :
    k0_pay51 v10 v328 (ix2 q j) = v328 (ix3 10 q j) * v10 (ix2 q 10) := by
  pointwise [k0_pay51]

theorem pay52_apply (v10 : FVec Ideal S384x20 .bf16) (v328 : FVec Ideal S20x384x256 .bf16) (q : Fin 384) (j : Fin 256) :
    k0_pay52 v10 v328 (ix2 q j) = v328 (ix3 11 q j) * v10 (ix2 q 11) := by
  pointwise [k0_pay52]

theorem pay53_apply (v10 : FVec Ideal S384x20 .bf16) (v328 : FVec Ideal S20x384x256 .bf16) (q : Fin 384) (j : Fin 256) :
    k0_pay53 v10 v328 (ix2 q j) = v328 (ix3 12 q j) * v10 (ix2 q 12) := by
  pointwise [k0_pay53]

theorem pay54_apply (v10 : FVec Ideal S384x20 .bf16) (v328 : FVec Ideal S20x384x256 .bf16) (q : Fin 384) (j : Fin 256) :
    k0_pay54 v10 v328 (ix2 q j) = v328 (ix3 13 q j) * v10 (ix2 q 13) := by
  pointwise [k0_pay54]

theorem pay55_apply (v10 : FVec Ideal S384x20 .bf16) (v328 : FVec Ideal S20x384x256 .bf16) (q : Fin 384) (j : Fin 256) :
    k0_pay55 v10 v328 (ix2 q j) = v328 (ix3 14 q j) * v10 (ix2 q 14) := by
  pointwise [k0_pay55]

theorem pay56_apply (v328 : FVec Ideal S20x384x256 .bf16) (q : Fin 384) (j : Fin 256) :
    k0_pay56 v328 (ix2 q j) = v328 (ix3 15 q j) := by
  pointwise [k0_pay56]

/-! ### The last layer and the validity of the polyline -/

theorem pay57_apply (v10 : FVec Ideal S384x20 .bf16) (v328 : FVec Ideal S20x384x256 .bf16) (v333 v338 v343 v348 v353 v358 v363 v368 v373 v378 v383 v388 v393 v398 v403 v405 : FVec Ideal S384x256 .bf16) (v450 : Vec Ideal S256x256 .f32) (v453 : Vec Ideal S1x256 .f32)
    (q : Fin 384) (o : Fin 256) :
    k0_pay57 v10 v328 v333 v338 v343 v348 v353 v358 v363 v368 v373 v378 v383 v388 v393 v398 v403 v405 v450 v453 (ix2 q o)
      = ((∑ k : Fin 256, tree ![v333 (ix2 q k), v338 (ix2 q k), v343 (ix2 q k), v348 (ix2 q k), v353 (ix2 q k), v358 (ix2 q k), v363 (ix2 q k), v368 (ix2 q k), v373 (ix2 q k), v378 (ix2 q k), v383 (ix2 q k), v388 (ix2 q k), v393 (ix2 q k), v398 (ix2 q k), v403 (ix2 q k), v405 (ix2 q k) * v10 (ix2 q 15), v328 (ix3 16 q k) * v10 (ix2 q 16), v328 (ix3 17 q k) * v10 (ix2 q 17), v328 (ix3 18 q k) * v10 (ix2 q 18), v328 (ix3 19 q k) * v10 (ix2 q 19)] * v450 (ix2 k o)) + v453 (ix2 0 o))
        * pmax (fun n => v10 (ix2 q n)) := by
  pointwise [k0_pay57]
  rw [ninf_bf16]
  rfl

end Cert.Proof.Block

end
-- ==== Proof.BlockOut.lean ====
/-
  What one block of the kernel computes: its result at row `q` and column `o` is `Net.kOut` of the block's row `q`.
-/
module

public import proofs.«01_k».proof.Proof.Block

@[expose] public section

set_option maxRecDepth 16384

noncomputable section

namespace Cert.Proof.Block

open Idealize.ShloMosaic Cert.KernelIdeal Cert.KernelIdeal.Gen Cert.Proof.Network Cert.Proof.Consts

variable (x0 : Vec Ideal S384x20x29 .f32) (x1 : Vec Ideal S384x20 .i32) (x2 : Vec Ideal S29x256 .f32)
  (x3 x4 : Vec Ideal S1x256 .f32) (x5 : Vec Ideal S512x256 .f32) (x6 x7 : Vec Ideal S1x256 .f32)
  (x8 : Vec Ideal S256x256 .f32) (x9 x10 : Vec Ideal S1x256 .f32) (x11 : Vec Ideal S256x256 .f32)
  (x12 : Vec Ideal S1x256 .f32)

/-- Row `q` of the block as a network. -/
def net (q : Fin 384) : Net where
  x n c := x0 (ix3 q n c)
  m n := bit (x1 (ix2 q n))
  w0 c j := x2 (ix2 c j)
  g0 j := x3 (ix2 0 j)
  b0 j := x4 (ix2 0 j)
  w1 k j := x5 (ix2 k j)
  g1 j := x6 (ix2 0 j)
  b1 j := x7 (ix2 0 j)
  w2 k j := x8 (ix2 k j)
  g2 j := x9 (ix2 0 j)
  b2 j := x10 (ix2 0 j)
  wo k o := x11 (ix2 k o)
  bo o := x12 (ix2 0 o)
  s := root

theorem pts_apply (q : Fin 384) (n : Fin 20) (c : Fin 29) : k0_pay58 x0 x1 x2 x3 x4 x5 x6 x7 x8 x9 x10 x11 x12 (ix3 q n c) = x0 (ix3 q n c) := by
  pointwise [k0_pay58, k0_pay2]

theorem mask_apply (q : Fin 384) (n : Fin 20) : k0_pay59 x0 x1 x2 x3 x4 x5 x6 x7 x8 x9 x10 x11 x12 (ix2 q n) = bit (x1 (ix2 q n)) := by
  unfold k0_pay59
  rw [pay3_apply]
  pointwise

theorem w0_apply (c : Fin 29) (j : Fin 256) :
    k0_pay60 x0 x1 x2 x3 x4 x5 x6 x7 x8 x9 x10 x11 x12 (ix2 c j) = x2 (ix2 c j) * (x3 (ix2 0 j) * Ideal.div 1 root) := by
  unfold k0_pay60
  rw [pay4_apply]
  pointwise

theorem b0_apply (j : Fin 256) : k0_pay61 x0 x1 x2 x3 x4 x5 x6 x7 x8 x9 x10 x11 x12 (ix2 0 j) = x4 (ix2 0 j) := by
  pointwise [k0_pay61, k0_pay5]

theorem w1lo_apply (k j : Fin 256) :
    k0_pay62 x0 x1 x2 x3 x4 x5 x6 x7 x8 x9 x10 x11 x12 (ix2 k j) = x5 (ix2 (lo k) j) * (x6 (ix2 0 j) * Ideal.div 1 root) := by
  unfold k0_pay62
  rw [pay7_apply]
  pointwise

theorem w1hi_apply (k j : Fin 256) :
    k0_pay8 (View.ld x6 r0_3) (View.ld x5 r0_5) (ix2 k j) = x5 (ix2 (hi k) j) * (x6 (ix2 0 j) * Ideal.div 1 root) := by
  rw [pay8_apply]
  pointwise

theorem w2_apply (k j : Fin 256) :
    k0_pay63 x0 x1 x2 x3 x4 x5 x6 x7 x8 x9 x10 x11 x12 (ix2 k j) = x8 (ix2 k j) * (x9 (ix2 0 j) * Ideal.div 1 root) := by
  unfold k0_pay63
  rw [pay9_apply]
  pointwise

theorem b2_apply (j : Fin 256) : k0_pay64 x0 x1 x2 x3 x4 x5 x6 x7 x8 x9 x10 x11 x12 (ix2 0 j) = x10 (ix2 0 j) := by
  pointwise [k0_pay64, k0_pay10]

theorem b1_apply (j : Fin 256) : View.ld x7 r0_3 (ix2 0 j) = x7 (ix2 0 j) := by
  pointwise

theorem wo_apply (k j : Fin 256) : View.ld x11 r0_6 (ix2 k j) = x11 (ix2 k j) := by
  pointwise

theorem bo_apply (j : Fin 256) : View.ld x12 r0_3 (ix2 0 j) = x12 (ix2 0 j) := by
  pointwise

/-- The block's first layer. -/
theorem hid_net (n : Fin 20) (q : Fin 384) (j : Fin 256) :
    rows (k0_pay58 x0 x1 x2 x3 x4 x5 x6 x7 x8 x9 x10 x11 x12) (k0_pay59 x0 x1 x2 x3 x4 x5 x6 x7 x8 x9 x10 x11 x12) (k0_pay60 x0 x1 x2 x3 x4 x5 x6 x7 x8 x9 x10 x11 x12) (k0_pay61 x0 x1 x2 x3 x4 x5 x6 x7 x8 x9 x10 x11 x12) n (ix2 q j) = (net x0 x1 x2 x3 x4 x5 x6 x7 x8 x9 x10 x11 x12 q).kHid n j := by
  rw [rows_apply]
  unfold hid
  simp only [pts_apply, mask_apply, w0_apply, b0_apply]
  rfl

/-- The block's pooled half of the second layer. -/
theorem ctx_net (q : Fin 384) (j : Fin 256) : k0_pay88 x0 x1 x2 x3 x4 x5 x6 x7 x8 x9 x10 x11 x12 (ix2 q j) = (net x0 x1 x2 x3 x4 x5 x6 x7 x8 x9 x10 x11 x12 q).kCtx j := by
  unfold k0_pay88
  refine (pay38_apply _ _ _ _ _ _ _ _ _ _ _ _ _ _ _ _ _ _ _ _ _ _ _ _ _ q j).trans ?_
  refine congrArg₂ (· + ·) (Finset.sum_congr rfl fun k _ => congrArg₂ (· * ·)
    (congrArg tree (funext fun n => hid_net x0 x1 x2 x3 x4 x5 x6 x7 x8 x9 x10 x11 x12 n q k)) (w1hi_apply x5 x6 k j)) (b1_apply x7 j)

/-- The block's third layer. -/
theorem top_net (n : Fin 20) (q : Fin 384) (j : Fin 256) : k0_pay89 x0 x1 x2 x3 x4 x5 x6 x7 x8 x9 x10 x11 x12 (ix3 n q j) = (net x0 x1 x2 x3 x4 x5 x6 x7 x8 x9 x10 x11 x12 q).kTop n j := by
  unfold k0_pay89
  refine (pay39_apply _ _ _ _ _ _ _ _ _ _ _ _ _ _ _ _ _ _ _ _ _ _ _ _ n q j).trans ?_
  refine congrArg (max · 0) (congrArg₂ (· + ·) (Finset.sum_congr rfl fun k _ => congrArg₂ (· * ·)
    (congrArg (max · 0) (congrArg₂ (· + ·) (Finset.sum_congr rfl fun l _ => congrArg₂ (· * ·)
      (hid_net x0 x1 x2 x3 x4 x5 x6 x7 x8 x9 x10 x11 x12 n q l) (w1lo_apply x0 x1 x2 x3 x4 x5 x6 x7 x8 x9 x10 x11 x12 l k)) (ctx_net x0 x1 x2 x3 x4 x5 x6 x7 x8 x9 x10 x11 x12 q k))) (w2_apply x0 x1 x2 x3 x4 x5 x6 x7 x8 x9 x10 x11 x12 k j)) (b2_apply x0 x1 x2 x3 x4 x5 x6 x7 x8 x9 x10 x11 x12 j))

/-- The block's result. -/
theorem out_net (q : Fin 384) (o : Fin 256) : out0_13 x0 x1 x2 x3 x4 x5 x6 x7 x8 x9 x10 x11 x12 (ix2 q o) = (net x0 x1 x2 x3 x4 x5 x6 x7 x8 x9 x10 x11 x12 q).kOut o := by
  unfold out0_13
  rw [View.canon_unit_zero (by decide)]
  refine (pay57_apply _ _ _ _ _ _ _ _ _ _ _ _ _ _ _ _ _ _ _ _ q o).trans ?_
  refine congrArg₂ (· * ·) (congrArg₂ (· + ·) (Finset.sum_congr rfl fun k _ => congrArg₂ (· * ·)
    (congrArg tree (funext fun n => ?_)) (wo_apply x11 k o)) (bo_apply x12 o))
    (congrArg pmax (funext fun n => mask_apply x0 x1 x2 x3 x4 x5 x6 x7 x8 x9 x10 x11 x12 q n))
  have ht : ∀ n : Fin 20, k0_pay89 x0 x1 x2 x3 x4 x5 x6 x7 x8 x9 x10 x11 x12 (ix3 n q k) * k0_pay59 x0 x1 x2 x3 x4 x5 x6 x7 x8 x9 x10 x11 x12 (ix2 q n) = (net x0 x1 x2 x3 x4 x5 x6 x7 x8 x9 x10 x11 x12 q).kTop n k * (net x0 x1 x2 x3 x4 x5 x6 x7 x8 x9 x10 x11 x12 q).m n :=
    fun n => congrArg₂ (· * ·) (top_net x0 x1 x2 x3 x4 x5 x6 x7 x8 x9 x10 x11 x12 n q k) (mask_apply x0 x1 x2 x3 x4 x5 x6 x7 x8 x9 x10 x11 x12 q n)
  fin_cases n

  · exact (pay40_apply _ _ _ _ _ _ _ _ _ _ _ _ _ _ _ _ _ _ _ _ _ _ _ _ _ q k).trans (ht 0)
  · exact (pay41_apply _ _ _ _ _ _ _ _ _ _ _ _ _ _ _ _ _ _ _ _ _ _ _ _ _ q k).trans (ht 1)
  · exact (pay42_apply _ _ _ _ _ _ _ _ _ _ _ _ _ _ _ _ _ _ _ _ _ _ _ _ _ q k).trans (ht 2)
  · exact ((pay44_apply _ _ q k).trans (congrArg (· * _) (pay43_apply _ _ _ _ _ _ _ _ _ _ _ _ _ _ _ _ _ _ _ _ _ _ _ _ q k))).trans (ht 3)
  · exact (pay45_apply _ _ q k).trans (ht 4)
  · exact (pay46_apply _ _ q k).trans (ht 5)
  · exact (pay47_apply _ _ q k).trans (ht 6)
  · exact (pay48_apply _ _ q k).trans (ht 7)
  · exact (pay49_apply _ _ q k).trans (ht 8)
  · exact (pay50_apply _ _ q k).trans (ht 9)
  · exact (pay51_apply _ _ q k).trans (ht 10)
  · exact (pay52_apply _ _ q k).trans (ht 11)
  · exact (pay53_apply _ _ q k).trans (ht 12)
  · exact (pay54_apply _ _ q k).trans (ht 13)
  · exact (pay55_apply _ _ q k).trans (ht 14)
  · exact (congrArg (· * _) (pay56_apply _ q k)).trans (ht 15)
  · exact ht 16
  · exact ht 17
  · exact ht 18
  · exact ht 19

end Cert.Proof.Block

end
-- ==== Proof.Encoder.lean ====
/-
  The encoder over whole arrays: the network of polyline `p` of batch `b`, read off the thirteen arguments.
-/
module

public import proofs.«01_k».proof.Proof.Consts
public import Idealize.ShloMosaic.Lib.Pointwise

@[expose] public section

noncomputable section

namespace Cert.Proof.Encoder

open Idealize.ShloMosaic Cert.Proof.Network Cert.Proof.Consts

/-- A mask bit as a number: zero or one. -/
def flag (w : BitVec 1) : EReal := if w = 0#1 then 0 else 1

/-- The thirteen arguments. -/
structure Args where
  x : (⟨4, ![4, 768, 20, 29]⟩ : Shape).Idx → EReal
  m : (⟨3, ![4, 768, 20]⟩ : Shape).Idx → BitVec 1
  w0 : (⟨2, ![29, 256]⟩ : Shape).Idx → EReal
  g0 : (⟨1, ![256]⟩ : Shape).Idx → EReal
  b0 : (⟨1, ![256]⟩ : Shape).Idx → EReal
  w1 : (⟨2, ![512, 256]⟩ : Shape).Idx → EReal
  g1 : (⟨1, ![256]⟩ : Shape).Idx → EReal
  b1 : (⟨1, ![256]⟩ : Shape).Idx → EReal
  w2 : (⟨2, ![256, 256]⟩ : Shape).Idx → EReal
  g2 : (⟨1, ![256]⟩ : Shape).Idx → EReal
  b2 : (⟨1, ![256]⟩ : Shape).Idx → EReal
  wo : (⟨2, ![256, 256]⟩ : Shape).Idx → EReal
  bo : (⟨1, ![256]⟩ : Shape).Idx → EReal

/-- The network of polyline `p` of batch `b`. -/
def Args.net (A : Args) (b : Fin 4) (p : Fin 768) : Net where
  x n c := A.x (ix4 b p n c)
  m n := flag (A.m (ix3 b p n))
  w0 c j := A.w0 (ix2 c j)
  g0 j := A.g0 (ix1 j)
  b0 j := A.b0 (ix1 j)
  w1 k j := A.w1 (ix2 k j)
  g1 j := A.g1 (ix1 j)
  b1 j := A.b1 (ix1 j)
  w2 k j := A.w2 (ix2 k j)
  g2 j := A.g2 (ix1 j)
  b2 j := A.b2 (ix1 j)
  wo k o := A.wo (ix2 k o)
  bo o := A.bo (ix1 o)
  s := root

/-- The batch of a row of the flattened array. -/
abbrev batch (r : Fin 3072) : Fin 4 := ⟨r.val / 768, by omega⟩

/-- The polyline of a row of the flattened array. -/
abbrev line (r : Fin 3072) : Fin 768 := ⟨r.val % 768, by omega⟩

end Cert.Proof.Encoder

end
-- ==== Proof.Array.lean ====
/-
  What the kernel's result array holds after the run: at every row and column the network of that row.
-/
module

public import proofs.«01_k».proof.Proof.BlockOut
public import proofs.«01_k».proof.Proof.Encoder
public import Idealize.ShloMosaic.Lib.Claim
public import Idealize.ShloMosaic.Lib.StableHlo.ReadAt

@[expose] public section

set_option maxRecDepth 16384

noncomputable section

namespace Cert.Proof.Array

open Idealize.ShloMosaic Idealize.ShloMosaic.TcCoe Idealize.SL.Sem
open Cert.KernelIdeal Cert.KernelIdeal.Gen Cert.Proof.Network Cert.Proof.Consts Cert.Proof.Encoder

variable (m : (ℓ : Loc nD τ sig) → Buf (Elt Ideal) ℓ)

/-- Device `c`'s thirteen arguments. -/
def args (c : Dev nD) : Args where
  x := m ((c.tc : Thread nD τ).loc main_arg0)
  m := m ((c.tc : Thread nD τ).loc main_arg1)
  w0 := m ((c.tc : Thread nD τ).loc main_arg2)
  g0 := m ((c.tc : Thread nD τ).loc main_arg3)
  b0 := m ((c.tc : Thread nD τ).loc main_arg4)
  w1 := m ((c.tc : Thread nD τ).loc main_arg5)
  g1 := m ((c.tc : Thread nD τ).loc main_arg6)
  b1 := m ((c.tc : Thread nD τ).loc main_arg7)
  w2 := m ((c.tc : Thread nD τ).loc main_arg8)
  g2 := m ((c.tc : Thread nD τ).loc main_arg9)
  b2 := m ((c.tc : Thread nD τ).loc main_arg10)
  wo := m ((c.tc : Thread nD τ).loc main_arg11)
  bo := m ((c.tc : Thread nD τ).loc main_arg12)

/-- The row of the flattened array at which row `q` of block `t` stands. -/
abbrev row (t : Fin cfg0.N) (q : Fin 384) : Fin 3072 := ⟨t.val * 384 + q.val, by have : t.val < 8 := t.isLt; omega⟩

/-- Where each window's block of point `t` stands. -/
theorem idx : ∀ t : Fin cfg0.N, win0_0.index t = ![t.val, 0, 0] ∧ win0_1.index t = ![t.val, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![0, 0]
    ∧ win0_13.index t = ![t.val, 0] := by decide +kernel

/-- Entry `(r, n, k)` of the flattened points when the pipeline starts. -/
theorem v0_at (c : Dev nD) (r : Fin 3072) (n : Fin 20) (k : Fin 29) :
    V m c main_v0 (ix3 r n k) = (args m c).x (ix4 (batch r) (line r) n k) := by
  unfold args V V0 hostOps0
  dsimp only [List.flatten_cons, List.flatten_nil, List.append_nil]
  after_reads_at

/-- Entry `(r, n)` of the flattened, widened mask. -/
theorem v9_at (c : Dev nD) (r : Fin 3072) (n : Fin 20) :
    V m c main_v9 (ix2 r n) = ((args m c).m (ix3 (batch r) (line r) n)).setWidth 32 := by
  unfold args V V0 hostOps0
  dsimp only [List.flatten_cons, List.flatten_nil, List.append_nil]
  after_reads_at

/-- Entry `j` of `g0` laid out as a row. -/
theorem v2_at (c : Dev nD) (j : Fin 256) : V m c main_v2 (ix2 0 j) = (args m c).g0 (ix1 j) := by
  unfold args V V0 hostOps0
  dsimp only [List.flatten_cons, List.flatten_nil, List.append_nil]
  after_reads_at

/-- Entry `j` of `b0` laid out as a row. -/
theorem v3_at (c : Dev nD) (j : Fin 256) : V m c main_v3 (ix2 0 j) = (args m c).b0 (ix1 j) := by
  unfold args V V0 hostOps0
  dsimp only [List.flatten_cons, List.flatten_nil, List.append_nil]
  after_reads_at

/-- Entry `j` of `g1` laid out as a row. -/
theorem v4_at (c : Dev nD) (j : Fin 256) : V m c main_v4 (ix2 0 j) = (args m c).g1 (ix1 j) := by
  unfold args V V0 hostOps0
  dsimp only [List.flatten_cons, List.flatten_nil, List.append_nil]
  after_reads_at

/-- Entry `j` of `b1` laid out as a row. -/
theorem v5_at (c : Dev nD) (j : Fin 256) : V m c main_v5 (ix2 0 j) = (args m c).b1 (ix1 j) := by
  unfold args V V0 hostOps0
  dsimp only [List.flatten_cons, List.flatten_nil, List.append_nil]
  after_reads_at

/-- Entry `j` of `g2` laid out as a row. -/
theorem v6_at (c : Dev nD) (j : Fin 256) : V m c main_v6 (ix2 0 j) = (args m c).g2 (ix1 j) := by
  unfold args V V0 hostOps0
  dsimp only [List.flatten_cons, List.flatten_nil, List.append_nil]
  after_reads_at

/-- Entry `j` of `b2` laid out as a row. -/
theorem v7_at (c : Dev nD) (j : Fin 256) : V m c main_v7 (ix2 0 j) = (args m c).b2 (ix1 j) := by
  unfold args V V0 hostOps0
  dsimp only [List.flatten_cons, List.flatten_nil, List.append_nil]
  after_reads_at

/-- Entry `j` of `bo` laid out as a row. -/
theorem v8_at (c : Dev nD) (j : Fin 256) : V m c main_v8 (ix2 0 j) = (args m c).bo (ix1 j) := by
  unfold args V V0 hostOps0
  dsimp only [List.flatten_cons, List.flatten_nil, List.append_nil]
  after_reads_at

/-- The points of row `q` of block `t`. -/
theorem x_apply (c : Dev nD) (t : Fin cfg0.N) (q : Fin 384) (n : Fin 20) (k : Fin 29) :
    iblk m c 0 t (ix3 q n k) = (args m c).x (ix4 (batch (row t q)) (line (row t q)) n k) := by
  rw [← v0_at]
  unfold iblk
  blk_ext [idx t]

/-- The mask of row `q` of block `t`. -/
theorem m_apply (c : Dev nD) (t : Fin cfg0.N) (q : Fin 384) (n : Fin 20) :
    iblk m c 1 t (ix2 q n) = ((args m c).m (ix3 (batch (row t q)) (line (row t q)) n)).setWidth 32 := by
  rw [← v9_at]
  unfold iblk
  blk_ext [idx t]

/-- Every block sees the whole of `g0`. -/
theorem g0_apply (c : Dev nD) (t : Fin cfg0.N) (j : Fin 256) : iblk m c 3 t (ix2 0 j) = (args m c).g0 (ix1 j) := by
  rw [← v2_at]
  unfold iblk
  blk_ext [idx t]

/-- Every block sees the whole of `b0`. -/
theorem b0_apply (c : Dev nD) (t : Fin cfg0.N) (j : Fin 256) : iblk m c 4 t (ix2 0 j) = (args m c).b0 (ix1 j) := by
  rw [← v3_at]
  unfold iblk
  blk_ext [idx t]

/-- Every block sees the whole of `g1`. -/
theorem g1_apply (c : Dev nD) (t : Fin cfg0.N) (j : Fin 256) : iblk m c 6 t (ix2 0 j) = (args m c).g1 (ix1 j) := by
  rw [← v4_at]
  unfold iblk
  blk_ext [idx t]

/-- Every block sees the whole of `b1`. -/
theorem b1_apply (c : Dev nD) (t : Fin cfg0.N) (j : Fin 256) : iblk m c 7 t (ix2 0 j) = (args m c).b1 (ix1 j) := by
  rw [← v5_at]
  unfold iblk
  blk_ext [idx t]

/-- Every block sees the whole of `g2`. -/
theorem g2_apply (c : Dev nD) (t : Fin cfg0.N) (j : Fin 256) : iblk m c 9 t (ix2 0 j) = (args m c).g2 (ix1 j) := by
  rw [← v6_at]
  unfold iblk
  blk_ext [idx t]

/-- Every block sees the whole of `b2`. -/
theorem b2_apply (c : Dev nD) (t : Fin cfg0.N) (j : Fin 256) : iblk m c 10 t (ix2 0 j) = (args m c).b2 (ix1 j) := by
  rw [← v7_at]
  unfold iblk
  blk_ext [idx t]

/-- Every block sees the whole of `bo`. -/
theorem bo_apply (c : Dev nD) (t : Fin cfg0.N) (j : Fin 256) : iblk m c 12 t (ix2 0 j) = (args m c).bo (ix1 j) := by
  rw [← v8_at]
  unfold iblk
  blk_ext [idx t]

/-- Every block sees the whole of `w0`. -/
theorem w0_apply (c : Dev nD) (t : Fin cfg0.N) (k : Fin 29) (j : Fin 256) :
    iblk m c 2 t (ix2 k j) = (args m c).w0 (ix2 k j) := by
  unfold args
  dsimp only
  blk_ext [iblk, V, idx t]

/-- Every block sees the whole of `w1`. -/
theorem w1_apply (c : Dev nD) (t : Fin cfg0.N) (k : Fin 512) (j : Fin 256) :
    iblk m c 5 t (ix2 k j) = (args m c).w1 (ix2 k j) := by
  unfold args
  dsimp only
  blk_ext [iblk, V, idx t]

/-- Every block sees the whole of `w2`. -/
theorem w2_apply (c : Dev nD) (t : Fin cfg0.N) (k : Fin 256) (j : Fin 256) :
    iblk m c 8 t (ix2 k j) = (args m c).w2 (ix2 k j) := by
  unfold args
  dsimp only
  blk_ext [iblk, V, idx t]

/-- Every block sees the whole of `wo`. -/
theorem wo_apply (c : Dev nD) (t : Fin cfg0.N) (k : Fin 256) (j : Fin 256) :
    iblk m c 11 t (ix2 k j) = (args m c).wo (ix2 k j) := by
  unfold args
  dsimp only
  blk_ext [iblk, V, idx t]

/-- A mask bit widened to a word is read as the same number. -/
theorem bit_setWidth (w : BitVec 1) : Block.bit (w.setWidth 32) = flag w := by
  unfold Block.bit flag
  by_cases h : w = 0#1
  · subst h; simp
  · have h1 : w = 1#1 := by revert h; revert w; decide
    subst h1; simp

/-- Row `q` of block `t` computes the network of its polyline. -/
theorem net_block (c : Dev nD) (t : Fin cfg0.N) (q : Fin 384) :
    Block.net (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) q = (args m c).net (batch (row t q)) (line (row t q)) := by
  unfold Block.net Args.net
  simp only [x_apply, m_apply, w0_apply, g0_apply, b0_apply, w1_apply, g1_apply, b1_apply, w2_apply, g2_apply,
    b2_apply, wo_apply, bo_apply, bit_setWidth]

/-- What the kernel's array holds after the run, by row and column. -/
def rows (c : Dev nD) : (⟨2, ![3072, 256]⟩ : Shape).Idx → EReal :=
  fun i => ((args m c).net (batch (i 0)) (line (i 0))).kOut (i 1)

/-- What block `t` computes at `(q, o)` is what the array should hold there. -/
theorem block_at (c : Dev nD) (t : Fin cfg0.N) (q : Fin 384) (o : Fin 256) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 q o) = rows m c (ix2 (row t q) o) := by
  rw [Block.out_net, net_block]
  rfl

/-- Entry `(q, o)` of block `t` stands in the array at its row. -/
theorem emb_at (t : Fin cfg0.N) (q : Fin 384) (o : Fin 256) :
    (win0_13.blk t).view.emb (ix2 q o : (⟨2, ![384, 256]⟩ : Shape).Idx) = (ix2 (row t q) o : (⟨2, ![3072, 256]⟩ : Shape).Idx) := by
  blk_ext [idx t]

/-- What block `t` leaves at an index is what the array should hold at that index's place. -/
theorem block_idx (c : Dev nD) (t : Fin cfg0.N) (y : (⟨2, ![384, 256]⟩ : Shape).Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) y = rows m c ((win0_13.blk t).view.emb y) := by
  rw [eq_ix2 y]
  exact (block_at m c t _ _).trans (congrArg (rows m c) (emb_at t _ _).symm)

/-- After the run the kernel's array holds the networks' outputs, one row per polyline. -/
theorem final (c : Dev nD) : (dats m 0 c).arrAt 13 cfg0.N = rows m c := by
  refine (dats m 0 c).arrAt_eq_of_covers 13 _ (by decide +kernel) fun t hf y => ?_
  blk_simp
  rw [after0_13]
  exact block_idx m c t y

/-- What the result array holds after the run: the networks' outputs by batch, polyline and feature. -/
def result (c : Dev nD) : (⟨3, ![4, 768, 256]⟩ : Shape).Idx → EReal :=
  fun i => ((args m c).net (i 0) (i 1)).kOut (i 2)

/-- Polyline `p` of batch `b` stands at row `b * 768 + p`. -/
theorem rows_fold (c : Dev nD) (b : Fin 4) (p : Fin 768) (o : Fin 256) (h : b.val * 768 + p.val < 3072) :
    rows m c (ix2 ⟨b.val * 768 + p.val, h⟩ o) = result m c (ix3 b p o) := by
  have hb : batch ⟨b.val * 768 + p.val, h⟩ = b := Fin.ext (by simp only [batch]; omega)
  have hp : line ⟨b.val * 768 + p.val, h⟩ = p := Fin.ext (by simp only [line]; omega)
  unfold rows result
  simp only [ix2_0, ix2_1, hb, hp]
  rfl

/-- The line after the pipeline folds the rows back into batches, read at an index. -/
theorem tail_at (c : Dev nD) (b : Fin 4) (p : Fin 768) (o : Fin 256) :
    Pipeline.afterTail₀ cfgs (dats m) 0 (V0 m) [hostOps1] c main_v11 (ix3 b p o) = result m c (ix3 b p o) := by
  have hA : Pipeline.withArrays spec0 c (V0 m c) (fun w => (dats m 0 c).arrAt w cfg0.N) (Proc.devRef .tc main_v10) = rows m c :=
    (Pipeline.withArrays_arr spec0 (by decide) c (V0 m c) (fun w => (dats m 0 c).arrAt w cfg0.N) 13).trans (final m c)
  unfold Pipeline.afterTail₀ hostOps1
  dsimp only [List.flatten_cons, List.flatten_nil, List.append_nil]
  after_reads_at
  exact (congrFun hA _).trans (rows_fold m c b p o _)

/-- The line after the pipeline folds the rows back into batches. -/
theorem tail_eq (c : Dev nD) : Pipeline.afterTail₀ cfgs (dats m) 0 (V0 m) [hostOps1] c main_v11 = result m c := by
  refine funext fun (i : (⟨3, ![4, 768, 256]⟩ : Shape).Idx) => ?_
  rw [eq_ix3 i]
  exact tail_at m c _ _ _

/-- The kernel's program runs to its result: every output of every network, the arguments unchanged. -/
theorem run (ρ) : θ_run defs (onTc (τ := τ) (main (F := Ideal))) ⟨m, fun _ => 0, ρ⟩ (fun r => ∀ c : Dev nD,
      r.2.mem ((c.tc : Thread nD τ).loc main_v11) = result m c) :=
  (θ_run defs _ _).mono (fun _ h c => ((h c).2 main_v11 (Pipeline.mem_restRefs_of main_v11 (by decide) (by decide))).trans (tail_eq m c))
    (run_main m ρ)

end Cert.Proof.Array

end
-- ==== Proof.Reference.lean ====
/-
  What the reference computes: its arrays, layer by layer, read at an index as the network in the reference's order.
-/
module

public import proofs.«01_k».proof.Proof.Gen.ReferenceIdeal.Run
public import proofs.«01_k».proof.Proof.Encoder
public import Idealize.ShloMosaic.Lib.Claim

@[expose] public section

set_option maxRecDepth 16384

noncomputable section

namespace Cert.Proof.Reference

open Idealize.ShloMosaic Idealize.ShloMosaic.TcCoe Idealize.SL.Sem
open Cert.ReferenceIdeal Cert.ReferenceIdeal.Gen Cert.Proof.Network Cert.Proof.Consts Cert.Proof.Encoder

/-- An array with one vector of 256 features at every point. -/
abbrev Feat : Type := FVec Ideal S4x768x20x256 .f32

/-- A vector of 256 features. -/
abbrev Vec : Type := FVec Ideal S256 .f32

/-- One vector at every point. -/
def spread (v : Vec) : Feat :=
  broadcastInDim S4x768x20x256 ![0, 1, 2, 3] bcast_S1x1x1x256_S4x768x20x256_0_1_2_3 (broadcastInDim S1x1x1x256 ![3] bcast_S256_S1x1x1x256_3 v)

/-- Scale, divide, shift, cut at zero. -/
def norm (g b : Vec) (z : Feat) : Feat :=
  maximumf (addf (Host.divf (mulf (spread g) z) (broadcastInDim S4x768x20x256 ![] bcast_S_S4x768x20x256 (id (Host.sqrt (constant S_ .f32 0x3F800054#32))))) (spread b))
    (broadcastInDim S4x768x20x256 ![] bcast_S_S4x768x20x256 (constant S_ .f32 0x00000000#32))

/-- Zero the points that the mask rules out. -/
def masked (mk : IVec S4x768x20 1) (z : Feat) : Feat :=
  mulf z (broadcastInDim S4x768x20x256 ![0, 1, 2, 3] bcast_S4x768x20x1_S4x768x20x256_0_1_2_3 (uitofp .f32 (broadcastInDim S4x768x20x1 ![0, 1, 2] bcast_S4x768x20_S4x768x20x1_0_1_2 mk)))

/-- The greatest value over a polyline's points. -/
def pool (z : Feat) : FVec Ideal S4x768x256 .f32 :=
  Host.reduce FloatOps.maximumf z (constant S_ .f32 0xFF800000#32) reducesTo_S4x768x20x256_S4x768x256_d2 h_S_

/-- Each point's features beside its polyline's pooled features. -/
def beside (z : Feat) : FVec Ideal S4x768x20x512 .f32 :=
  concatenate S4x768x20x512 3 [⟨S4x768x20x256, z⟩, ⟨S4x768x20x256, (broadcastInDim S4x768x20x256 ![0, 1, 2, 3] bcast_S4x768x1x256_S4x768x20x256_0_1_2_3 (broadcastInDim S4x768x1x256 ![0, 1, 3] bcast_S4x768x256_S4x768x1x256_0_1_3 (pool z)))⟩] concatenates_S4x768x20x256_S4x768x20x256_S4x768x20x512_d3

/-- One where some point of the polyline is valid, else zero. -/
def some1 (mk : IVec S4x768x20 1) : FVec Ideal S4x768x256 .f32 :=
  broadcastInDim S4x768x256 ![0, 1, 2] bcast_S4x768x1_S4x768x256_0_1_2 (uitofp .f32 (broadcastInDim S4x768x1 ![0, 1] bcast_S4x768_S4x768x1_0_1 (cmpi .sgt (Host.reduce IntOp.addi (extui 32 mk natLt_1_32) (constantI S_ 32 0#32) reducesTo_S4x768x20_S4x768_d2 h_S_) (broadcastInDim S4x768 ![] bcast_S_S4x768 (constantI S_ 32 0#32)))))

variable (A : Args)

/-- The first layer. -/
def hid : Feat := masked A.m (norm A.g0 A.b0 (Host.dotGeneral (φ₁ := .f32) (φ₂ := .f32) dot_S4x768x20x29_S29x256_S4x768x20x256_3_0_012_1_n_n none
  (A.x : FVec Ideal S4x768x20x29 .f32) (A.w0 : FVec Ideal S29x256 .f32)))

/-- The second layer. -/
def mid : Feat := norm A.g1 A.b1 (Host.dotGeneral (φ₁ := .f32) (φ₂ := .f32) dot_S4x768x20x512_S512x256_S4x768x20x256_3_0_012_1_n_n none
  (beside (hid A)) (A.w1 : FVec Ideal S512x256 .f32))

/-- The third layer. -/
def top : Feat := masked A.m (norm A.g2 A.b2 (Host.dotGeneral (φ₁ := .f32) (φ₂ := .f32) dot_S4x768x20x256_S256x256_S4x768x20x256_3_0_012_1_n_n none
  (mid A) (A.w2 : FVec Ideal S256x256 .f32)))

/-- The last layer, zeroed where no point is valid. -/
def last (z : FVec Ideal S4x768x256 .f32) (w : FVec Ideal S256x256 .f32) (b : Vec) (v : FVec Ideal S4x768x256 .f32) : FVec Ideal S4x768x256 .f32 :=
  mulf (addf (Host.dotGeneral (φ₁ := .f32) (φ₂ := .f32) dot_S4x768x256_S256x256_S4x768x256_2_0_01_1_n_n none z w)
    (broadcastInDim S4x768x256 ![0, 1, 2] bcast_S1x1x256_S4x768x256_0_1_2 (broadcastInDim S1x1x256 ![2] bcast_S256_S1x1x256_2 b))) v

/-- The whole reference. -/
def whole : FVec Ideal S4x768x256 .f32 := last (pool (top A)) A.wo A.bo (some1 A.m)

/-- A mask bit converted to a number is its flag. -/
theorem flag_eq (w : BitVec 1) : FloatOps.uitofp (F := Ideal) .f32 w = flag w := by
  unfold flag
  by_cases h : w = 0#1
  · subst h; simp [FloatOps.uitofp]
  · have h1 : w = 1#1 := by revert h; revert w; decide
    subst h1; simp [FloatOps.uitofp]

/-- A point's features after a layer. -/
theorem norm_apply (g b : Vec) (z : Feat) (i : Fin 4) (p : Fin 768) (n : Fin 20) (j : Fin 256) :
    norm g b z (ix4 i p n j) = max (Ideal.div (g (ix1 j) * z (ix4 i p n j)) root + b (ix1 j)) 0 := by
  unfold norm spread
  pointwise
  rfl

/-- A point's features after the mask. -/
theorem masked_apply (mk : IVec S4x768x20 1) (z : Feat) (i : Fin 4) (p : Fin 768) (n : Fin 20) (j : Fin 256) :
    masked mk z (ix4 i p n j) = z (ix4 i p n j) * flag (mk (ix3 i p n)) := by
  unfold masked
  pointwise
  rw [flag_eq]

/-- A polyline's pooled features. -/
theorem pool_apply (z : Feat) (i : Fin 4) (p : Fin 768) (j : Fin 256) :
    pool z (ix3 i p j) = pmax fun n => z (ix4 i p n j) := by
  unfold pool pmax
  pointwise
  rw [ninf_f32]

/-- The lower half of the joined features is the point's own. -/
theorem beside_lo (z : Feat) (i : Fin 4) (p : Fin 768) (n : Fin 20) (k : Fin 256) :
    beside z (ix4 i p n (lo k)) = z (ix4 i p n k) := by
  unfold beside
  pointwise

/-- The upper half of the joined features is the polyline's. -/
theorem beside_hi (z : Feat) (i : Fin 4) (p : Fin 768) (n : Fin 20) (k : Fin 256) :
    beside z (ix4 i p n (hi k)) = pool z (ix3 i p k) := by
  unfold beside
  pointwise

/-- A sum of at most 20 widened bits does not wrap: it counts the bits that are set. -/
theorem count_eq (f : Fin 20 → BitVec 1) (s : Finset (Fin 20)) :
    (s.fold IntOp.addi (0#32) fun n => BitVec.setWidth 32 (f n)).toNat = ∑ n ∈ s, (f n).toNat ∧ ∑ n ∈ s, (f n).toNat ≤ s.card := by
  induction s using Finset.induction_on with
  | empty => simp
  | insert a s ha ih =>
    obtain ⟨h1, h2⟩ := ih
    have hc : s.card ≤ 20 := card_finset_fin_le s
    have hb : (f a).toNat < 2 := (f a).isLt
    rw [Finset.fold_insert ha, Finset.sum_insert ha, Finset.card_insert_of_notMem ha]
    refine ⟨?_, by omega⟩
    show (BitVec.setWidth 32 (f a) + _).toNat = _
    rw [BitVec.toNat_add, h1, BitVec.toNat_setWidth]
    omega

/-- The count is above zero exactly when a bit is set, which is when the greatest flag is one. -/
theorem count_pos (f : Fin 20 → BitVec 1) :
    flag (IntOp.cmpi CmpIPredicate.sgt (Finset.univ.fold IntOp.addi (0#32) fun n => BitVec.setWidth 32 (f n)) 0#32) =
      pmax fun n => flag (f n) := by
  obtain ⟨h1, h2⟩ := count_eq f Finset.univ
  rw [Finset.card_univ, Fintype.card_fin] at h2
  generalize (Finset.univ.fold IntOp.addi (0#32) fun n => BitVec.setWidth 32 (f n)) = w at h1
  have hw : BitVec.slt 0#32 w = decide (0 < w.toNat) := by
    have : w.toInt = w.toNat := BitVec.toInt_eq_toNat_of_lt (by omega)
    simp [BitVec.slt, this]
  have hm : IntOp.cmpi CmpIPredicate.sgt w 0#32 = BitVec.ofBool (decide (0 < w.toNat)) := by
    rw [← hw]; rfl
  rw [hm]
  by_cases h : ∃ n, f n ≠ 0#1
  · obtain ⟨n, hn⟩ := h
    have hp : 0 < w.toNat := by
      rw [h1]
      refine Finset.sum_pos' (fun _ _ => Nat.zero_le _) ⟨n, Finset.mem_univ _, ?_⟩
      exact Nat.pos_of_ne_zero fun e => hn (BitVec.eq_of_toNat_eq e)
    rw [decide_eq_true hp]
    have hle := le_pmax (fun n => flag (f n)) n
    obtain ⟨k, hk⟩ := pmax_mem fun n => flag (f n)
    have h1 : flag (BitVec.ofBool true) = 1 := if_neg (by decide)
    have hfn : flag (f n) = 1 := if_neg hn
    rw [h1]
    replace hle : flag (f n) ≤ pmax fun n => flag (f n) := hle
    rw [hfn] at hle
    refine le_antisymm hle ?_
    rw [hk]
    unfold flag
    split
    · exact zero_le_one
    · exact le_rfl
  · push Not at h
    have hz : w.toNat = 0 := by
      rw [h1]
      exact Finset.sum_eq_zero fun n _ => by rw [h n]; rfl
    obtain ⟨k, hk⟩ := pmax_mem fun n => flag (f n)
    rw [hk, h k, hz]
    rfl

/-- Whether a polyline has a valid point. -/
theorem some1_apply (mk : IVec S4x768x20 1) (i : Fin 4) (p : Fin 768) (j : Fin 256) :
    some1 mk (ix3 i p j) = pmax fun n => flag (mk (ix3 i p n)) := by
  unfold some1
  pointwise
  rw [flag_eq]
  exact count_pos fun n => mk (ix3 i p n)

/-- The first layer at a point. -/
theorem hid_apply (i : Fin 4) (p : Fin 768) (n : Fin 20) (j : Fin 256) :
    hid A (ix4 i p n j) = (A.net i p).rHid n j := by
  unfold hid
  rw [masked_apply, norm_apply]
  pointwise
  rfl

/-- The pooled first layer. -/
theorem pooled_apply (i : Fin 4) (p : Fin 768) (j : Fin 256) : pool (hid A) (ix3 i p j) = (A.net i p).rPool j := by
  rw [pool_apply]
  exact congrArg pmax (funext fun n => hid_apply A i p n j)

/-- A sum over 512 rows is the sum over its two halves. -/
theorem sum_halves (f : Fin 512 → EReal) : ∑ k, f k = (∑ k : Fin 256, f (lo k)) + ∑ k : Fin 256, f (hi k) :=
  Fin.sum_univ_add (M := EReal) (a := 256) (b := 256) f

/-- The second layer at a point. -/
theorem mid_apply (i : Fin 4) (p : Fin 768) (n : Fin 20) (j : Fin 256) :
    mid A (ix4 i p n j) = (A.net i p).rMid n j := by
  have hd : Host.dotGeneral (φ₁ := .f32) (φ₂ := .f32) dot_S4x768x20x512_S512x256_S4x768x20x256_3_0_012_1_n_n none (beside (hid A)) (A.w1 : FVec Ideal S512x256 .f32) (ix4 i p n j)
      = ((∑ k, (A.net i p).rHid n k * (A.net i p).w1 (lo k) j) + ∑ k, (A.net i p).rPool k * (A.net i p).w1 (hi k) j : EReal) := by
    have : Host.dotGeneral (φ₁ := .f32) (φ₂ := .f32) dot_S4x768x20x512_S512x256_S4x768x20x256_3_0_012_1_n_n none (beside (hid A)) (A.w1 : FVec Ideal S512x256 .f32) (ix4 i p n j)
        = (∑ k : Fin 512, beside (hid A) (ix4 i p n k) * A.w1 (ix2 k j) : EReal) := by
      pointwise
    rw [this, sum_halves]
    simp only [beside_lo, beside_hi, hid_apply, pooled_apply]
    rfl
  unfold mid
  rw [norm_apply, hd]
  rfl

/-- The third layer at a point, masked. -/
theorem top_apply (i : Fin 4) (p : Fin 768) (n : Fin 20) (j : Fin 256) :
    top A (ix4 i p n j) = (A.net i p).rTop n j * (A.net i p).m n := by
  unfold top
  rw [masked_apply, norm_apply]
  pointwise
  simp only [mid_apply]
  rfl

/-- The last layer at an index. -/
theorem last_apply (z : FVec Ideal S4x768x256 .f32) (w : FVec Ideal S256x256 .f32) (b : Vec) (v : FVec Ideal S4x768x256 .f32)
    (i : Fin 4) (p : Fin 768) (o : Fin 256) :
    last z w b v (ix3 i p o) = ((∑ k, z (ix3 i p k) * w (ix2 k o) : EReal) + b (ix1 o)) * v (ix3 i p o) := by
  unfold last
  pointwise

/-- The reference's result at an index. -/
theorem whole_apply (i : Fin 4) (p : Fin 768) (o : Fin 256) :
    whole A (ix3 i p o) = (A.net i p).rOut (pmax (A.net i p).m) o := by
  unfold whole
  rw [last_apply, some1_apply]
  simp only [pool_apply, top_apply]
  rfl

variable (m : (ℓ : Loc nD τ sig) → Buf (Elt Ideal) ℓ)

/-- The reference's thirteen arguments on device `c`. -/
def args (c : Dev nD) : Args where
  x := m ((c.tc : Thread nD τ).loc main_arg0)
  m := m ((c.tc : Thread nD τ).loc main_arg1)
  w0 := m ((c.tc : Thread nD τ).loc main_arg2)
  g0 := m ((c.tc : Thread nD τ).loc main_arg3)
  b0 := m ((c.tc : Thread nD τ).loc main_arg4)
  w1 := m ((c.tc : Thread nD τ).loc main_arg5)
  g1 := m ((c.tc : Thread nD τ).loc main_arg6)
  b1 := m ((c.tc : Thread nD τ).loc main_arg7)
  w2 := m ((c.tc : Thread nD τ).loc main_arg8)
  g2 := m ((c.tc : Thread nD τ).loc main_arg9)
  b2 := m ((c.tc : Thread nD τ).loc main_arg10)
  wo := m ((c.tc : Thread nD τ).loc main_arg11)
  bo := m ((c.tc : Thread nD τ).loc main_arg12)

/-- The reference's printed result is the composition of these layers. -/
theorem res_eq (c : Dev nD) : Value.res_main_v58 m c = whole (args m c) := by
  unfold Value.res_main_v58 whole last some1 top mid hid masked norm beside pool spread args
  rfl

end Cert.Proof.Reference

end
-- ==== Proof.Pre.lean ====
/-
  The precondition read off the arguments: with it every network of the batch meets the equation's conditions.
-/
module

public import proofs.«01_k».proof.Defs
public import proofs.«01_k».proof.Proof.Array

@[expose] public section

set_option maxRecDepth 16384

noncomputable section

namespace Cert.Proof.Pre

open Idealize.ShloMosaic Idealize.ShloMosaic.TcCoe Idealize.SL.Sem
open Cert.Proof.Network Cert.Proof.Consts Cert.Proof.Encoder

/-- The shape relations that the precondition's operations state. -/
theorem facts : Cert.Pre_finite.Facts where
  bcast_S_S4x768x20x29 := by decide
  bcast_S4x768x20_S4x768x20x1_0_1_2 := by decide
  bcast_S4x768x20x1_S4x768x20x29_0_1_2_3 := by decide
  bcast_S_S29x256 := by decide
  bcast_S_S256 := by decide
  bcast_S_S512x256 := by decide
  bcast_S_S256x256 := by decide

/-- A number that compares below plus infinity is not plus infinity. -/
theorem ne_top {x : EReal} (h : FloatOps.cmpf (F := Ideal) (φ := .f32) .olt x (Ideal.ofBits .f32 0x7F800000#32) = 1#1) : x ≠ ⊤ := by
  rw [pinf_f32] at h
  rintro rfl
  simp [FloatOps.cmpf, Ideal.cmp] at h

/-- A number whose size compares below plus infinity is a real. -/
theorem isFin {x : EReal} (h : FloatOps.cmpf (F := Ideal) (φ := .f32) .olt (FloatOps.absf (F := Ideal) (φ := .f32) x) (Ideal.ofBits .f32 0x7F800000#32) = 1#1) : IsFin x := by
  have := ne_top h
  refine IsFin.of_ne ?_ ?_
  · rintro rfl
    exact this (by simp [FloatOps.absf])
  · rintro rfl
    exact this (by simp [FloatOps.absf])

/-- The precondition's nine arrays of tests. -/
def outcome (A : Args) :=
  haveI := facts
  Cert.Pre_finite.fn (F := Ideal) A.x A.m A.w0 A.g0 A.b0 A.w1 A.g1 A.b1 A.w2 A.g2 A.b2 A.wo A.bo

/-- Every test passes. -/
def Passes (A : Args) : Prop :=
  (outcome A).1 = (fun _ => 1#1)
      ∧ (outcome A).2.1 = (fun _ => 1#1)
      ∧ (outcome A).2.2.1 = (fun _ => 1#1)
      ∧ (outcome A).2.2.2.1 = (fun _ => 1#1)
      ∧ (outcome A).2.2.2.2.1 = (fun _ => 1#1)
      ∧ (outcome A).2.2.2.2.2.1 = (fun _ => 1#1)
      ∧ (outcome A).2.2.2.2.2.2.1 = (fun _ => 1#1)
      ∧ (outcome A).2.2.2.2.2.2.2.1 = (fun _ => 1#1)
      ∧ (outcome A).2.2.2.2.2.2.2.2 = (fun _ => 1#1)

/-- A bit joined with the opposite of a mask bit is set: if the mask's flag is one, the bit itself is set. -/
theorem of_valid (a w : BitVec 1) (h : IntOp.ori a (~~~w) = 1#1) (hw : flag w = 1) : a = 1#1 := by
  have h0 : w ≠ 0#1 := by
    rintro rfl
    simp [flag] at hw
  clear hw
  unfold IntOp.ori at h
  revert a w
  decide

/-- The points' test at one number: it is finite, or its point is not valid. -/
theorem points_at (A : Args) (b : Fin 4) (p : Fin 768) (n : Fin 20) (c : Fin 29) :
    (outcome A).1 (ix4 b p n c) = IntOp.ori (FloatOps.cmpf (F := Ideal) (φ := .f32) .olt
      (FloatOps.absf (F := Ideal) (φ := .f32) (A.x (ix4 b p n c))) (Ideal.ofBits .f32 0x7F800000#32)) (~~~(A.m (ix3 b p n))) := by
  unfold outcome Cert.Pre_finite.fn Cert.Pre_finite.fn_part1
  dsimp only
  unfold ori noti
  pointwise

/-- Where every test passes, every network meets the equation's conditions. -/
theorem ok (A : Args) (h : Passes A) (b : Fin 4) (p : Fin 768) : (A.net b p).Ok := by
  obtain ⟨hx, hw0, hg0, hb0, hw1, hg1, hb1, hw2, hg2⟩ := h
  refine ⟨fun n => ?_, fun n hv c =>
      isFin (of_valid _ _ ((points_at A b p n c).symm.trans (congrFun hx (ix4 b p n c))) hv), fun c j => isFin (congrFun hw0 (ix2 c j)),
    fun j => isFin (congrFun hg0 (ix1 j)), fun j => ne_top (congrFun hb0 (ix1 j)), fun k j => isFin (congrFun hw1 (ix2 k j)),
    fun j => isFin (congrFun hg1 (ix1 j)), fun j => ne_top (congrFun hb1 (ix1 j)), fun k j => isFin (congrFun hw2 (ix2 k j)),
    fun j => isFin (congrFun hg2 (ix1 j)), root_fin, root_ne⟩
  show flag _ = 0 ∨ flag _ = 1
  unfold flag
  split
  · exact .inl rfl
  · exact .inr rfl

/-- The precondition of the claim is that the kernel's arguments pass, on every device. -/
theorem passes (m : (ℓ : Loc Cert.KernelIdeal.nD Cert.KernelIdeal.τ Cert.KernelIdeal.sig) → Buf (Elt Ideal) ℓ)
    (h : Cert.Pre_KernelIdeal_finite (hPre_finite := facts) m) (c : Dev Cert.KernelIdeal.nD) : Passes (Array.args m c) := by
  unfold Passes outcome Array.args
  exact h c

end Cert.Proof.Pre

end
-- ==== Proof.lean ====
/-
  The certificate: the kernel's and the reference's programs run and leave their arguments as they were, and, read with
  exact numbers, they end with equal results wherever the precondition holds. The mathematics is in the modules under
  Proof/: the network (Network), the two orders of its arithmetic (Equation), what one block computes (Block, BlockOut),
  what the array holds (Array), what the reference computes (Reference), the precondition (Pre).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Reference
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference's program runs, leaves its arguments as they were and every counter at zero. -/
theorem frame_reference (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal))) ⟨m, fun _ => 0, g⟩
      (fun r => (∀ c : Dev ReferenceIdeal.nD,
        r.2.mem ((c.tc : Thread ReferenceIdeal.nD ReferenceIdeal.τ).loc ReferenceIdeal.main_arg0) = m ((c.tc : Thread ReferenceIdeal.nD ReferenceIdeal.τ).loc ReferenceIdeal.main_arg0)
        ∧ r.2.mem ((c.tc : Thread ReferenceIdeal.nD ReferenceIdeal.τ).loc ReferenceIdeal.main_arg1) = m ((c.tc : Thread ReferenceIdeal.nD ReferenceIdeal.τ).loc ReferenceIdeal.main_arg1)
        ∧ r.2.mem ((c.tc : Thread ReferenceIdeal.nD ReferenceIdeal.τ).loc ReferenceIdeal.main_arg2) = m ((c.tc : Thread ReferenceIdeal.nD ReferenceIdeal.τ).loc ReferenceIdeal.main_arg2)
        ∧ r.2.mem ((c.tc : Thread ReferenceIdeal.nD ReferenceIdeal.τ).loc ReferenceIdeal.main_arg3) = m ((c.tc : Thread ReferenceIdeal.nD ReferenceIdeal.τ).loc ReferenceIdeal.main_arg3)
        ∧ r.2.mem ((c.tc : Thread ReferenceIdeal.nD ReferenceIdeal.τ).loc ReferenceIdeal.main_arg4) = m ((c.tc : Thread ReferenceIdeal.nD ReferenceIdeal.τ).loc ReferenceIdeal.main_arg4)
        ∧ r.2.mem ((c.tc : Thread ReferenceIdeal.nD ReferenceIdeal.τ).loc ReferenceIdeal.main_arg5) = m ((c.tc : Thread ReferenceIdeal.nD ReferenceIdeal.τ).loc ReferenceIdeal.main_arg5)
        ∧ r.2.mem ((c.tc : Thread ReferenceIdeal.nD ReferenceIdeal.τ).loc ReferenceIdeal.main_arg6) = m ((c.tc : Thread ReferenceIdeal.nD ReferenceIdeal.τ).loc ReferenceIdeal.main_arg6)
        ∧ r.2.mem ((c.tc : Thread ReferenceIdeal.nD ReferenceIdeal.τ).loc ReferenceIdeal.main_arg7) = m ((c.tc : Thread ReferenceIdeal.nD ReferenceIdeal.τ).loc ReferenceIdeal.main_arg7)
        ∧ r.2.mem ((c.tc : Thread ReferenceIdeal.nD ReferenceIdeal.τ).loc ReferenceIdeal.main_arg8) = m ((c.tc : Thread ReferenceIdeal.nD ReferenceIdeal.τ).loc ReferenceIdeal.main_arg8)
        ∧ r.2.mem ((c.tc : Thread ReferenceIdeal.nD ReferenceIdeal.τ).loc ReferenceIdeal.main_arg9) = m ((c.tc : Thread ReferenceIdeal.nD ReferenceIdeal.τ).loc ReferenceIdeal.main_arg9)
        ∧ r.2.mem ((c.tc : Thread ReferenceIdeal.nD ReferenceIdeal.τ).loc ReferenceIdeal.main_arg10) = m ((c.tc : Thread ReferenceIdeal.nD ReferenceIdeal.τ).loc ReferenceIdeal.main_arg10)
        ∧ r.2.mem ((c.tc : Thread ReferenceIdeal.nD ReferenceIdeal.τ).loc ReferenceIdeal.main_arg11) = m ((c.tc : Thread ReferenceIdeal.nD ReferenceIdeal.τ).loc ReferenceIdeal.main_arg11)
        ∧ r.2.mem ((c.tc : Thread ReferenceIdeal.nD ReferenceIdeal.τ).loc ReferenceIdeal.main_arg12) = m ((c.tc : Thread ReferenceIdeal.nD ReferenceIdeal.τ).loc ReferenceIdeal.main_arg12))
        ∧ r.2.sem = fun _ => 0) :=
  (θ_run ReferenceIdeal.defs _ _).mono (fun r h => ⟨fun c => (h c).2, sem_eq_zero_of_no_sems (by decide) r.2⟩)
    (ReferenceIdeal.Value.run (F := Ideal) m g)

/-- Where the tests pass and the two programs have the same arguments, their results are equal. -/
theorem results_eq (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD)
    (hp : Pre.Passes (Array.args m c)) (ha : Reference.args m' c = Array.args m c) :
    ReferenceIdeal.Value.res_main_v58 m' c = Array.result m c := by
  rw [Reference.res_eq, ha]
  refine funext fun (i : (⟨3, ![4, 768, 256]⟩ : Shape).Idx) => ?_
  rw [eq_ix3 i]
  exact (Reference.whole_apply _ _ _ _).trans ((Pre.ok _ hp _ _).out _).symm

/-- The kernel and the reference, read with exact numbers, end with equal results. -/
theorem algebraic : Cert.algebraic_KernelIdeal_ReferenceIdeal_pre_finite (hKernelIdeal := Cert.KernelIdeal.Gen.facts)
    (hReferenceIdeal := Cert.ReferenceIdeal.Gen.facts) (hPre_finite := Pre.facts) := by
  intro m g m' g' hpre hagree
  refine ⟨fun c => Array.result m c, ?_, ?_⟩
  · exact (θ_run KernelIdeal.defs _ _).mono (fun _ h c => ⟨h.1 c, h.2 c⟩)
      (θ_run_and (Array.run m g) (KernelIdeal.Gen.unchanged m g))
  · refine (θ_run ReferenceIdeal.defs _ _).mono (fun _ h c => ⟨(h c).1.trans (results_eq m m' c (Pre.passes m hpre c) ?_), (h c).2⟩)
      (ReferenceIdeal.Value.run (F := Ideal) m' g')
    obtain ⟨h0, h1, h2, h3, h4, h5, h6, h7, h8, h9, h10, h11, h12⟩ := hagree c
    unfold Reference.args Array.args
    rw [h0, h1, h2, h3, h4, h5, h6, h7, h8, h9, h10, h11, h12]

/-- Everything the certificate claims. -/
theorem claim : Cert.Claim :=
  ⟨Cert.Kernel.Gen.facts, Cert.KernelIdeal.Gen.facts, Cert.ReferenceIdeal.Gen.facts, Pre.facts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
